-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![32768, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S3x256x1024 : Shape := ⟨3, ![3, 256, 1024]⟩
abbrev S1024x1024 : Shape := ⟨2, ![1024, 1024]⟩
abbrev S3x1024x1024 : Shape := ⟨3, ![3, 1024, 1024]⟩
abbrev S4x1024x1024 : Shape := ⟨3, ![4, 1024, 1024]⟩
abbrev S12 : Shape := ⟨1, ![12]⟩
abbrev S16 : Shape := ⟨1, ![16]⟩
abbrev S_ : Shape := ⟨0, ![]⟩
abbrev S3 : Shape := ⟨1, ![3]⟩
abbrev S4 : Shape := ⟨1, ![4]⟩
abbrev S1 : Shape := ⟨1, ![1]⟩
abbrev S1x256x1024 : Shape := ⟨3, ![1, 256, 1024]⟩
abbrev S256x1024 : Shape := ⟨2, ![256, 1024]⟩
abbrev S1x64x1024 : Shape := ⟨3, ![1, 64, 1024]⟩
abbrev S64x1024 : Shape := ⟨2, ![64, 1024]⟩
abbrev S1x1024x1024 : Shape := ⟨3, ![1, 1024, 1024]⟩

abbrev nBuf : Space → Nat
  | .hbm => 2
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S3x256x1024, .f32⟩
  | .local _ .vmem, ⟨1, _⟩ => ⟨S3x256x1024, .f32⟩
  | .local _ .vmem, ⟨2, _⟩ => ⟨S1024x1024, .f32⟩
  | .local _ .vmem, ⟨3, _⟩ => ⟨S3x1024x1024, .f32⟩
  | .local _ .vmem, ⟨4, _⟩ => ⟨S4x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  (ofTc nBuf bufTy 1 116 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_31 : BitVec 32 := 16#32
  let v58 : BitVec 32 := Scalar.muli v2 c16_i32_31
  let v59 : BitVec 32 := Scalar.addi c0_i32_32 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_33 : BitVec 32 := 4#32
  let v60 : BitVec 32 := Scalar.muli v5 c4_i32_33
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_34 : BitVec 32 := 1#32
  let v62 : BitVec 32 := Scalar.muli v19 c1_i32_34
  let v63 : BitVec 32 := Scalar.addi v61 v62
  v63.toNat
def k0_dev2 (d0 : Dev nD) : Nat :=
  let c0_i32_37 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_36 : BitVec 32 := 16#32
  let v64 : BitVec 32 := Scalar.muli v2 c16_i32_36
  let v65 : BitVec 32 := Scalar.addi c0_i32_37 v64
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v66 : BitVec 32 := Scalar.muli v5 c4_i32_38
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_39 : BitVec 32 := 1#32
  let v68 : BitVec 32 := Scalar.muli v30 c1_i32_39
  let v69 : BitVec 32 := Scalar.addi v67 v68
  v69.toNat
def k0_dev3 (d0 : Dev nD) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v70 : BitVec 32 := Scalar.muli v2 c16_i32_41
  let v71 : BitVec 32 := Scalar.addi c0_i32_42 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_43 : BitVec 32 := 4#32
  let v72 : BitVec 32 := Scalar.muli v41 c4_i32_43
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v74 : BitVec 32 := Scalar.muli v8 c1_i32_44
  let v75 : BitVec 32 := Scalar.addi v73 v74
  v75.toNat
def k0_dev4 (d0 : Dev nD) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_46 : BitVec 32 := 16#32
  let v76 : BitVec 32 := Scalar.muli v2 c16_i32_46
  let v77 : BitVec 32 := Scalar.addi c0_i32_47 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_22 : BitVec 32 := 1#32
  let v42 : BitVec 32 := Scalar.subi v5 c1_i32_22
  let c4_i32_23 : BitVec 32 := 4#32
  let c0_i32_24 : BitVec 32 := 0#32
  let v43 : BitVec 1 := Scalar.cmpi .eq c4_i32_23 c0_i32_24
  let c1_i32_25 : BitVec 32 := 1#32
  let v44 : BitVec 32 := Scalar.select v43 c1_i32_25 c4_i32_23
  let v45 : BitVec 32 := Scalar.remsi v42 v44
  let c0_i32_27 : BitVec 32 := 0#32
  let v47 : BitVec 1 := Scalar.cmpi .slt v45 c0_i32_27
  let c0_i32_28 : BitVec 32 := 0#32
  let v48 : BitVec 1 := Scalar.cmpi .slt v44 c0_i32_28
  let v49 : BitVec 1 := Scalar.xori v47 v48
  let c0_i32_26 : BitVec 32 := 0#32
  let v46 : BitVec 1 := Scalar.cmpi .ne v45 c0_i32_26
  let v50 : BitVec 1 := Scalar.andi v49 v46
  let v51 : BitVec 32 := Scalar.addi v45 v44
  let v52 : BitVec 32 := Scalar.select v50 v51 v45
  let c4_i32_48 : BitVec 32 := 4#32
  let v78 : BitVec 32 := Scalar.muli v52 c4_i32_48
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v80 : BitVec 32 := Scalar.muli v8 c1_i32_49
  let v81 : BitVec 32 := Scalar.addi v79 v80
  v81.toNat
def k0_dev5 (d0 : Dev nD) : Nat :=
  let c0_i32_52 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_51 : BitVec 32 := 16#32
  let v82 : BitVec 32 := Scalar.muli v53 c16_i32_51
  let v83 : BitVec 32 := Scalar.addi c0_i32_52 v82
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v84 : BitVec 32 := Scalar.muli v5 c4_i32_53
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v86 : BitVec 32 := Scalar.muli v8 c1_i32_54
  let v87 : BitVec 32 := Scalar.addi v85 v86
  v87.toNat
def k0_off1 (d0 : Dev nD) (c0_i32_55 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v54 : BitVec 32 := Scalar.muli v2 c4096_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32 : BitVec 32 := 1024#32
  let v55 : BitVec 32 := Scalar.muli v5 c1024_i32
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v88 : BitVec 32 := Scalar.subi v8 c0_i32_55
  let c1_i32_56 : BitVec 32 := 1#32
  let v89 : BitVec 32 := Scalar.subi v88 c1_i32_56
  let c4_i32_57 : BitVec 32 := 4#32
  let c0_i32_58 : BitVec 32 := 0#32
  let v90 : BitVec 1 := Scalar.cmpi .eq c4_i32_57 c0_i32_58
  let c1_i32_59 : BitVec 32 := 1#32
  let v91 : BitVec 32 := Scalar.select v90 c1_i32_59 c4_i32_57
  let v92 : BitVec 32 := Scalar.remsi v89 v91
  let c0_i32_61 : BitVec 32 := 0#32
  let v94 : BitVec 1 := Scalar.cmpi .slt v92 c0_i32_61
  let c0_i32_62 : BitVec 32 := 0#32
  let v95 : BitVec 1 := Scalar.cmpi .slt v91 c0_i32_62
  let v96 : BitVec 1 := Scalar.xori v94 v95
  let c0_i32_60 : BitVec 32 := 0#32
  let v93 : BitVec 1 := Scalar.cmpi .ne v92 c0_i32_60
  let v97 : BitVec 1 := Scalar.andi v96 v93
  let v98 : BitVec 32 := Scalar.addi v92 v91
  let v99 : BitVec 32 := Scalar.select v97 v98 v92
  let c256_i32 : BitVec 32 := 256#32
  let v100 : BitVec 32 := Scalar.muli v99 c256_i32
  let v101 : BitVec 32 := Scalar.addi v56 v100
  let c0_i32_67 : BitVec 32 := 0#32
  ![v101.toNat, 0]
def k0_off2 (d0 : Dev nD) (c0_i32_104 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v54 : BitVec 32 := Scalar.muli v2 c4096_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32 : BitVec 32 := 1024#32
  let v55 : BitVec 32 := Scalar.muli v5 c1024_i32
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_96 : BitVec 32 := 0#32
  let v145 : BitVec 32 := Scalar.subi v8 c0_i32_96
  let c4_i32_97 : BitVec 32 := 4#32
  let c0_i32_98 : BitVec 32 := 0#32
  let v146 : BitVec 1 := Scalar.cmpi .eq c4_i32_97 c0_i32_98
  let c1_i32_99 : BitVec 32 := 1#32
  let v147 : BitVec 32 := Scalar.select v146 c1_i32_99 c4_i32_97
  let v148 : BitVec 32 := Scalar.remsi v145 v147
  let c0_i32_101 : BitVec 32 := 0#32
  let v150 : BitVec 1 := Scalar.cmpi .slt v148 c0_i32_101
  let c0_i32_102 : BitVec 32 := 0#32
  let v151 : BitVec 1 := Scalar.cmpi .slt v147 c0_i32_102
  let v152 : BitVec 1 := Scalar.xori v150 v151
  let c0_i32_100 : BitVec 32 := 0#32
  let v149 : BitVec 1 := Scalar.cmpi .ne v148 c0_i32_100
  let v153 : BitVec 1 := Scalar.andi v152 v149
  let v154 : BitVec 32 := Scalar.addi v148 v147
  let v155 : BitVec 32 := Scalar.select v153 v154 v148
  let c256_i32_103 : BitVec 32 := 256#32
  let v156 : BitVec 32 := Scalar.muli v155 c256_i32_103
  let v157 : BitVec 32 := Scalar.addi v56 v156
  let v158 : BitVec 32 := Scalar.addi v157 c0_i32_104
  let c0_i32_114 : BitVec 32 := 0#32
  ![v158.toNat, 0]
def k0_dev6 (d0 : Dev nD) : Nat :=
  let c0_i32_109 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_108 : BitVec 32 := 16#32
  let v159 : BitVec 32 := Scalar.muli v2 c16_i32_108
  let v160 : BitVec 32 := Scalar.addi c0_i32_109 v159
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_110 : BitVec 32 := 4#32
  let v161 : BitVec 32 := Scalar.muli v5 c4_i32_110
  let v162 : BitVec 32 := Scalar.addi v160 v161
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_111 : BitVec 32 := 1#32
  let v163 : BitVec 32 := Scalar.muli v19 c1_i32_111
  let v164 : BitVec 32 := Scalar.addi v162 v163
  v164.toNat
def k0_dev7 (d0 : Dev nD) : Nat :=
  let c0_i32_127 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_126 : BitVec 32 := 16#32
  let v186 : BitVec 32 := Scalar.muli v2 c16_i32_126
  let v187 : BitVec 32 := Scalar.addi c0_i32_127 v186
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_128 : BitVec 32 := 4#32
  let v188 : BitVec 32 := Scalar.muli v5 c4_i32_128
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_129 : BitVec 32 := 1#32
  let v190 : BitVec 32 := Scalar.muli v19 c1_i32_129
  let v191 : BitVec 32 := Scalar.addi v189 v190
  v191.toNat
def k0_dev8 (d0 : Dev nD) : Nat :=
  let c0_i32_145 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_144 : BitVec 32 := 16#32
  let v213 : BitVec 32 := Scalar.muli v2 c16_i32_144
  let v214 : BitVec 32 := Scalar.addi c0_i32_145 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_146 : BitVec 32 := 4#32
  let v215 : BitVec 32 := Scalar.muli v5 c4_i32_146
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_147 : BitVec 32 := 1#32
  let v217 : BitVec 32 := Scalar.muli v19 c1_i32_147
  let v218 : BitVec 32 := Scalar.addi v216 v217
  v218.toNat
def k0_dev9 (d0 : Dev nD) : Nat :=
  let c0_i32_162 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_161 : BitVec 32 := 16#32
  let v240 : BitVec 32 := Scalar.muli v2 c16_i32_161
  let v241 : BitVec 32 := Scalar.addi c0_i32_162 v240
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_163 : BitVec 32 := 4#32
  let v242 : BitVec 32 := Scalar.muli v5 c4_i32_163
  let v243 : BitVec 32 := Scalar.addi v241 v242
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_164 : BitVec 32 := 1#32
  let v244 : BitVec 32 := Scalar.muli v19 c1_i32_164
  let v245 : BitVec 32 := Scalar.addi v243 v244
  v245.toNat
def k0_dev10 (d0 : Dev nD) : Nat :=
  let c0_i32_203 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_202 : BitVec 32 := 16#32
  let v282 : BitVec 32 := Scalar.muli v2 c16_i32_202
  let v283 : BitVec 32 := Scalar.addi c0_i32_203 v282
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_204 : BitVec 32 := 4#32
  let v284 : BitVec 32 := Scalar.muli v5 c4_i32_204
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_205 : BitVec 32 := 1#32
  let v286 : BitVec 32 := Scalar.muli v19 c1_i32_205
  let v287 : BitVec 32 := Scalar.addi v285 v286
  v287.toNat
def k0_dev11 (d0 : Dev nD) : Nat :=
  let c0_i32_240 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_239 : BitVec 32 := 16#32
  let v320 : BitVec 32 := Scalar.muli v2 c16_i32_239
  let v321 : BitVec 32 := Scalar.addi c0_i32_240 v320
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_241 : BitVec 32 := 4#32
  let v322 : BitVec 32 := Scalar.muli v5 c4_i32_241
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_242 : BitVec 32 := 1#32
  let v324 : BitVec 32 := Scalar.muli v19 c1_i32_242
  let v325 : BitVec 32 := Scalar.addi v323 v324
  v325.toNat
def k0_dev12 (d0 : Dev nD) : Nat :=
  let c0_i32_276 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_275 : BitVec 32 := 16#32
  let v358 : BitVec 32 := Scalar.muli v2 c16_i32_275
  let v359 : BitVec 32 := Scalar.addi c0_i32_276 v358
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_277 : BitVec 32 := 4#32
  let v360 : BitVec 32 := Scalar.muli v5 c4_i32_277
  let v361 : BitVec 32 := Scalar.addi v359 v360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_278 : BitVec 32 := 1#32
  let v362 : BitVec 32 := Scalar.muli v19 c1_i32_278
  let v363 : BitVec 32 := Scalar.addi v361 v362
  v363.toNat
def k0_dev13 (d0 : Dev nD) : Nat :=
  let c0_i32_312 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_311 : BitVec 32 := 16#32
  let v396 : BitVec 32 := Scalar.muli v2 c16_i32_311
  let v397 : BitVec 32 := Scalar.addi c0_i32_312 v396
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_313 : BitVec 32 := 4#32
  let v398 : BitVec 32 := Scalar.muli v5 c4_i32_313
  let v399 : BitVec 32 := Scalar.addi v397 v398
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_314 : BitVec 32 := 1#32
  let v400 : BitVec 32 := Scalar.muli v19 c1_i32_314
  let v401 : BitVec 32 := Scalar.addi v399 v400
  v401.toNat
def k0_dev14 (d0 : Dev nD) : Nat :=
  let c0_i32_357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_356 : BitVec 32 := 16#32
  let v441 : BitVec 32 := Scalar.muli v2 c16_i32_356
  let v442 : BitVec 32 := Scalar.addi c0_i32_357 v441
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_358 : BitVec 32 := 4#32
  let v443 : BitVec 32 := Scalar.muli v5 c4_i32_358
  let v444 : BitVec 32 := Scalar.addi v442 v443
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_359 : BitVec 32 := 1#32
  let v445 : BitVec 32 := Scalar.muli v19 c1_i32_359
  let v446 : BitVec 32 := Scalar.addi v444 v445
  v446.toNat
def k0_dev15 (d0 : Dev nD) : Nat :=
  let c0_i32_398 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_397 : BitVec 32 := 16#32
  let v481 : BitVec 32 := Scalar.muli v2 c16_i32_397
  let v482 : BitVec 32 := Scalar.addi c0_i32_398 v481
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_399 : BitVec 32 := 4#32
  let v483 : BitVec 32 := Scalar.muli v5 c4_i32_399
  let v484 : BitVec 32 := Scalar.addi v482 v483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_400 : BitVec 32 := 1#32
  let v485 : BitVec 32 := Scalar.muli v19 c1_i32_400
  let v486 : BitVec 32 := Scalar.addi v484 v485
  v486.toNat
def k0_dev16 (d0 : Dev nD) : Nat :=
  let c0_i32_439 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_438 : BitVec 32 := 16#32
  let v521 : BitVec 32 := Scalar.muli v2 c16_i32_438
  let v522 : BitVec 32 := Scalar.addi c0_i32_439 v521
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_440 : BitVec 32 := 4#32
  let v523 : BitVec 32 := Scalar.muli v5 c4_i32_440
  let v524 : BitVec 32 := Scalar.addi v522 v523
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_441 : BitVec 32 := 1#32
  let v525 : BitVec 32 := Scalar.muli v19 c1_i32_441
  let v526 : BitVec 32 := Scalar.addi v524 v525
  v526.toNat
def k0_dev17 (d0 : Dev nD) : Nat :=
  let c0_i32_480 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_479 : BitVec 32 := 16#32
  let v561 : BitVec 32 := Scalar.muli v2 c16_i32_479
  let v562 : BitVec 32 := Scalar.addi c0_i32_480 v561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_481 : BitVec 32 := 4#32
  let v563 : BitVec 32 := Scalar.muli v5 c4_i32_481
  let v564 : BitVec 32 := Scalar.addi v562 v563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_482 : BitVec 32 := 1#32
  let v565 : BitVec 32 := Scalar.muli v19 c1_i32_482
  let v566 : BitVec 32 := Scalar.addi v564 v565
  v566.toNat
def k0_off3 (d0 : Dev nD) (c0_i32_522 : BitVec 32) (c0_i32_530 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_521 : BitVec 32 := 1#32
  let v606 : BitVec 32 := Scalar.addi v8 c1_i32_521
  let v607 : BitVec 32 := Scalar.subi v606 c0_i32_522
  let c4_i32_523 : BitVec 32 := 4#32
  let c0_i32_524 : BitVec 32 := 0#32
  let v608 : BitVec 1 := Scalar.cmpi .eq c4_i32_523 c0_i32_524
  let c1_i32_525 : BitVec 32 := 1#32
  let v609 : BitVec 32 := Scalar.select v608 c1_i32_525 c4_i32_523
  let v610 : BitVec 32 := Scalar.remsi v607 v609
  let c0_i32_527 : BitVec 32 := 0#32
  let v612 : BitVec 1 := Scalar.cmpi .slt v610 c0_i32_527
  let c0_i32_528 : BitVec 32 := 0#32
  let v613 : BitVec 1 := Scalar.cmpi .slt v609 c0_i32_528
  let v614 : BitVec 1 := Scalar.xori v612 v613
  let c0_i32_526 : BitVec 32 := 0#32
  let v611 : BitVec 1 := Scalar.cmpi .ne v610 c0_i32_526
  let v615 : BitVec 1 := Scalar.andi v614 v611
  let v616 : BitVec 32 := Scalar.addi v610 v609
  let v617 : BitVec 32 := Scalar.select v615 v616 v610
  let c256_i32_529 : BitVec 32 := 256#32
  let v618 : BitVec 32 := Scalar.muli v617 c256_i32_529
  let v619 : BitVec 32 := Scalar.addi v618 c0_i32_530
  let c0_i32_538 : BitVec 32 := 0#32
  ![v619.toNat, 0]
def k0_dev18 (d0 : Dev nD) : Nat :=
  let c0_i32_535 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_534 : BitVec 32 := 16#32
  let v620 : BitVec 32 := Scalar.muli v2 c16_i32_534
  let v621 : BitVec 32 := Scalar.addi c0_i32_535 v620
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_536 : BitVec 32 := 4#32
  let v622 : BitVec 32 := Scalar.muli v5 c4_i32_536
  let v623 : BitVec 32 := Scalar.addi v621 v622
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_537 : BitVec 32 := 1#32
  let v624 : BitVec 32 := Scalar.muli v19 c1_i32_537
  let v625 : BitVec 32 := Scalar.addi v623 v624
  v625.toNat
def k0_dev19 (d0 : Dev nD) : Nat :=
  let c0_i32_585 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_584 : BitVec 32 := 16#32
  let v673 : BitVec 32 := Scalar.muli v2 c16_i32_584
  let v674 : BitVec 32 := Scalar.addi c0_i32_585 v673
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_586 : BitVec 32 := 4#32
  let v675 : BitVec 32 := Scalar.muli v5 c4_i32_586
  let v676 : BitVec 32 := Scalar.addi v674 v675
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_587 : BitVec 32 := 1#32
  let v677 : BitVec 32 := Scalar.muli v19 c1_i32_587
  let v678 : BitVec 32 := Scalar.addi v676 v677
  v678.toNat
def k0_dev20 (d0 : Dev nD) : Nat :=
  let c0_i32_635 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_634 : BitVec 32 := 16#32
  let v726 : BitVec 32 := Scalar.muli v2 c16_i32_634
  let v727 : BitVec 32 := Scalar.addi c0_i32_635 v726
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_636 : BitVec 32 := 4#32
  let v728 : BitVec 32 := Scalar.muli v5 c4_i32_636
  let v729 : BitVec 32 := Scalar.addi v727 v728
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_637 : BitVec 32 := 1#32
  let v730 : BitVec 32 := Scalar.muli v19 c1_i32_637
  let v731 : BitVec 32 := Scalar.addi v729 v730
  v731.toNat
def k0_dev21 (d0 : Dev nD) : Nat :=
  let c0_i32_685 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_684 : BitVec 32 := 16#32
  let v779 : BitVec 32 := Scalar.muli v2 c16_i32_684
  let v780 : BitVec 32 := Scalar.addi c0_i32_685 v779
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_686 : BitVec 32 := 4#32
  let v781 : BitVec 32 := Scalar.muli v5 c4_i32_686
  let v782 : BitVec 32 := Scalar.addi v780 v781
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_687 : BitVec 32 := 1#32
  let v783 : BitVec 32 := Scalar.muli v19 c1_i32_687
  let v784 : BitVec 32 := Scalar.addi v782 v783
  v784.toNat
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_691 : BitVec 32 := 1#32
  let v792 : BitVec 32 := Scalar.addi v8 c1_i32_691
  let c4_i32_692 : BitVec 32 := 4#32
  let c0_i32_693 : BitVec 32 := 0#32
  let v793 : BitVec 1 := Scalar.cmpi .eq c4_i32_692 c0_i32_693
  let c1_i32_694 : BitVec 32 := 1#32
  let v794 : BitVec 32 := Scalar.select v793 c1_i32_694 c4_i32_692
  let v795 : BitVec 32 := Scalar.remsi v792 v794
  let c0_i32_696 : BitVec 32 := 0#32
  let v797 : BitVec 1 := Scalar.cmpi .slt v795 c0_i32_696
  let c0_i32_697 : BitVec 32 := 0#32
  let v798 : BitVec 1 := Scalar.cmpi .slt v794 c0_i32_697
  let v799 : BitVec 1 := Scalar.xori v797 v798
  let c0_i32_695 : BitVec 32 := 0#32
  let v796 : BitVec 1 := Scalar.cmpi .ne v795 c0_i32_695
  let v800 : BitVec 1 := Scalar.andi v799 v796
  let v801 : BitVec 32 := Scalar.addi v795 v794
  let v802 : BitVec 32 := Scalar.select v800 v801 v795
  let c256_i32_698 : BitVec 32 := 256#32
  let v803 : BitVec 32 := Scalar.muli v802 c256_i32_698
  let c0_i32_700 : BitVec 32 := 0#32
  ![v803.toNat, 0]
def k0_off5 (d0 : Dev nD) (c0_i32_708 : BitVec 32) : Fin 3 → Nat :=
  let c0_i32_716 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_707 : BitVec 32 := 1#32
  let v810 : BitVec 32 := Scalar.addi v8 c1_i32_707
  let v811 : BitVec 32 := Scalar.subi v810 c0_i32_708
  let c4_i32_709 : BitVec 32 := 4#32
  let c0_i32_710 : BitVec 32 := 0#32
  let v812 : BitVec 1 := Scalar.cmpi .eq c4_i32_709 c0_i32_710
  let c1_i32_711 : BitVec 32 := 1#32
  let v813 : BitVec 32 := Scalar.select v812 c1_i32_711 c4_i32_709
  let v814 : BitVec 32 := Scalar.remsi v811 v813
  let c0_i32_713 : BitVec 32 := 0#32
  let v816 : BitVec 1 := Scalar.cmpi .slt v814 c0_i32_713
  let c0_i32_714 : BitVec 32 := 0#32
  let v817 : BitVec 1 := Scalar.cmpi .slt v813 c0_i32_714
  let v818 : BitVec 1 := Scalar.xori v816 v817
  let c0_i32_712 : BitVec 32 := 0#32
  let v815 : BitVec 1 := Scalar.cmpi .ne v814 c0_i32_712
  let v819 : BitVec 1 := Scalar.andi v818 v815
  let v820 : BitVec 32 := Scalar.addi v814 v813
  let v821 : BitVec 32 := Scalar.select v819 v820 v814
  let c256_i32_715 : BitVec 32 := 256#32
  let v822 : BitVec 32 := Scalar.muli v821 c256_i32_715
  let c0_i32_723 : BitVec 32 := 0#32
  ![0, v822.toNat, 0]
def k0_off6 (d0 : Dev nD) (c0_i32_708 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_707 : BitVec 32 := 1#32
  let v810 : BitVec 32 := Scalar.addi v8 c1_i32_707
  let v811 : BitVec 32 := Scalar.subi v810 c0_i32_708
  let c4_i32_709 : BitVec 32 := 4#32
  let c0_i32_710 : BitVec 32 := 0#32
  let v812 : BitVec 1 := Scalar.cmpi .eq c4_i32_709 c0_i32_710
  let c1_i32_711 : BitVec 32 := 1#32
  let v813 : BitVec 32 := Scalar.select v812 c1_i32_711 c4_i32_709
  let v814 : BitVec 32 := Scalar.remsi v811 v813
  let c0_i32_713 : BitVec 32 := 0#32
  let v816 : BitVec 1 := Scalar.cmpi .slt v814 c0_i32_713
  let c0_i32_714 : BitVec 32 := 0#32
  let v817 : BitVec 1 := Scalar.cmpi .slt v813 c0_i32_714
  let v818 : BitVec 1 := Scalar.xori v816 v817
  let c0_i32_712 : BitVec 32 := 0#32
  let v815 : BitVec 1 := Scalar.cmpi .ne v814 c0_i32_712
  let v819 : BitVec 1 := Scalar.andi v818 v815
  let v820 : BitVec 32 := Scalar.addi v814 v813
  let v821 : BitVec 32 := Scalar.select v819 v820 v814
  let c256_i32_715 : BitVec 32 := 256#32
  let v822 : BitVec 32 := Scalar.muli v821 c256_i32_715
  let c0_i32_724 : BitVec 32 := 0#32
  ![v822.toNat, 0]
def k0_dev22 (d0 : Dev nD) : Nat :=
  let c0_i32_720 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_719 : BitVec 32 := 16#32
  let v823 : BitVec 32 := Scalar.muli v2 c16_i32_719
  let v824 : BitVec 32 := Scalar.addi c0_i32_720 v823
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_721 : BitVec 32 := 4#32
  let v825 : BitVec 32 := Scalar.muli v41 c4_i32_721
  let v826 : BitVec 32 := Scalar.addi v824 v825
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_722 : BitVec 32 := 1#32
  let v827 : BitVec 32 := Scalar.muli v8 c1_i32_722
  let v828 : BitVec 32 := Scalar.addi v826 v827
  v828.toNat
def k0_off7 (d0 : Dev nD) (c0_i32_708 : BitVec 32) : Fin 3 → Nat :=
  let c0_i32_725 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_707 : BitVec 32 := 1#32
  let v810 : BitVec 32 := Scalar.addi v8 c1_i32_707
  let v811 : BitVec 32 := Scalar.subi v810 c0_i32_708
  let c4_i32_709 : BitVec 32 := 4#32
  let c0_i32_710 : BitVec 32 := 0#32
  let v812 : BitVec 1 := Scalar.cmpi .eq c4_i32_709 c0_i32_710
  let c1_i32_711 : BitVec 32 := 1#32
  let v813 : BitVec 32 := Scalar.select v812 c1_i32_711 c4_i32_709
  let v814 : BitVec 32 := Scalar.remsi v811 v813
  let c0_i32_713 : BitVec 32 := 0#32
  let v816 : BitVec 1 := Scalar.cmpi .slt v814 c0_i32_713
  let c0_i32_714 : BitVec 32 := 0#32
  let v817 : BitVec 1 := Scalar.cmpi .slt v813 c0_i32_714
  let v818 : BitVec 1 := Scalar.xori v816 v817
  let c0_i32_712 : BitVec 32 := 0#32
  let v815 : BitVec 1 := Scalar.cmpi .ne v814 c0_i32_712
  let v819 : BitVec 1 := Scalar.andi v818 v815
  let v820 : BitVec 32 := Scalar.addi v814 v813
  let v821 : BitVec 32 := Scalar.select v819 v820 v814
  let c256_i32_715 : BitVec 32 := 256#32
  let v822 : BitVec 32 := Scalar.muli v821 c256_i32_715
  let c0_i32_732 : BitVec 32 := 0#32
  ![0, v822.toNat, 0]
def k0_dev23 (d0 : Dev nD) : Nat :=
  let c0_i32_729 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_728 : BitVec 32 := 16#32
  let v836 : BitVec 32 := Scalar.muli v53 c16_i32_728
  let v837 : BitVec 32 := Scalar.addi c0_i32_729 v836
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_730 : BitVec 32 := 4#32
  let v838 : BitVec 32 := Scalar.muli v5 c4_i32_730
  let v839 : BitVec 32 := Scalar.addi v837 v838
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_731 : BitVec 32 := 1#32
  let v840 : BitVec 32 := Scalar.muli v8 c1_i32_731
  let v841 : BitVec 32 := Scalar.addi v839 v840
  v841.toNat
def k0_dev24 (d0 : Dev nD) : Nat :=
  let c0_i32_766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_765 : BitVec 32 := 16#32
  let v881 : BitVec 32 := Scalar.muli v2 c16_i32_765
  let v882 : BitVec 32 := Scalar.addi c0_i32_766 v881
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_767 : BitVec 32 := 4#32
  let v883 : BitVec 32 := Scalar.muli v5 c4_i32_767
  let v884 : BitVec 32 := Scalar.addi v882 v883
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_768 : BitVec 32 := 1#32
  let v885 : BitVec 32 := Scalar.muli v19 c1_i32_768
  let v886 : BitVec 32 := Scalar.addi v884 v885
  v886.toNat
def k0_dev25 (d0 : Dev nD) : Nat :=
  let c0_i32_803 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_802 : BitVec 32 := 16#32
  let v925 : BitVec 32 := Scalar.muli v2 c16_i32_802
  let v926 : BitVec 32 := Scalar.addi c0_i32_803 v925
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_804 : BitVec 32 := 4#32
  let v927 : BitVec 32 := Scalar.muli v5 c4_i32_804
  let v928 : BitVec 32 := Scalar.addi v926 v927
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_805 : BitVec 32 := 1#32
  let v929 : BitVec 32 := Scalar.muli v19 c1_i32_805
  let v930 : BitVec 32 := Scalar.addi v928 v929
  v930.toNat
def k0_dev26 (d0 : Dev nD) : Nat :=
  let c0_i32_840 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_839 : BitVec 32 := 16#32
  let v969 : BitVec 32 := Scalar.muli v2 c16_i32_839
  let v970 : BitVec 32 := Scalar.addi c0_i32_840 v969
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_841 : BitVec 32 := 4#32
  let v971 : BitVec 32 := Scalar.muli v5 c4_i32_841
  let v972 : BitVec 32 := Scalar.addi v970 v971
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_842 : BitVec 32 := 1#32
  let v973 : BitVec 32 := Scalar.muli v19 c1_i32_842
  let v974 : BitVec 32 := Scalar.addi v972 v973
  v974.toNat
def k0_dev27 (d0 : Dev nD) : Nat :=
  let c0_i32_877 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_876 : BitVec 32 := 16#32
  let v1013 : BitVec 32 := Scalar.muli v2 c16_i32_876
  let v1014 : BitVec 32 := Scalar.addi c0_i32_877 v1013
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_878 : BitVec 32 := 4#32
  let v1015 : BitVec 32 := Scalar.muli v5 c4_i32_878
  let v1016 : BitVec 32 := Scalar.addi v1014 v1015
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_879 : BitVec 32 := 1#32
  let v1017 : BitVec 32 := Scalar.muli v19 c1_i32_879
  let v1018 : BitVec 32 := Scalar.addi v1016 v1017
  v1018.toNat
def k0_dev28 (d0 : Dev nD) : Nat :=
  let c0_i32_895 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_894 : BitVec 32 := 16#32
  let v1038 : BitVec 32 := Scalar.muli v2 c16_i32_894
  let v1039 : BitVec 32 := Scalar.addi c0_i32_895 v1038
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_896 : BitVec 32 := 4#32
  let v1040 : BitVec 32 := Scalar.muli v41 c4_i32_896
  let v1041 : BitVec 32 := Scalar.addi v1039 v1040
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_897 : BitVec 32 := 1#32
  let v1042 : BitVec 32 := Scalar.muli v8 c1_i32_897
  let v1043 : BitVec 32 := Scalar.addi v1041 v1042
  v1043.toNat
def k0_dev29 (d0 : Dev nD) : Nat :=
  let c0_i32_904 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_903 : BitVec 32 := 16#32
  let v1051 : BitVec 32 := Scalar.muli v53 c16_i32_903
  let v1052 : BitVec 32 := Scalar.addi c0_i32_904 v1051
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_905 : BitVec 32 := 4#32
  let v1053 : BitVec 32 := Scalar.muli v5 c4_i32_905
  let v1054 : BitVec 32 := Scalar.addi v1052 v1053
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_906 : BitVec 32 := 1#32
  let v1055 : BitVec 32 := Scalar.muli v8 c1_i32_906
  let v1056 : BitVec 32 := Scalar.addi v1054 v1055
  v1056.toNat
def k0_dev30 (d0 : Dev nD) : Nat :=
  let c0_i32_937 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_936 : BitVec 32 := 16#32
  let v1094 : BitVec 32 := Scalar.muli v2 c16_i32_936
  let v1095 : BitVec 32 := Scalar.addi c0_i32_937 v1094
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_938 : BitVec 32 := 4#32
  let v1096 : BitVec 32 := Scalar.muli v5 c4_i32_938
  let v1097 : BitVec 32 := Scalar.addi v1095 v1096
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_939 : BitVec 32 := 1#32
  let v1098 : BitVec 32 := Scalar.muli v19 c1_i32_939
  let v1099 : BitVec 32 := Scalar.addi v1097 v1098
  v1099.toNat
def k0_dev31 (d0 : Dev nD) : Nat :=
  let c0_i32_970 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_969 : BitVec 32 := 16#32
  let v1136 : BitVec 32 := Scalar.muli v2 c16_i32_969
  let v1137 : BitVec 32 := Scalar.addi c0_i32_970 v1136
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_971 : BitVec 32 := 4#32
  let v1138 : BitVec 32 := Scalar.muli v5 c4_i32_971
  let v1139 : BitVec 32 := Scalar.addi v1137 v1138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_972 : BitVec 32 := 1#32
  let v1140 : BitVec 32 := Scalar.muli v19 c1_i32_972
  let v1141 : BitVec 32 := Scalar.addi v1139 v1140
  v1141.toNat
def k0_dev32 (d0 : Dev nD) : Nat :=
  let c0_i32_1003 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1002 : BitVec 32 := 16#32
  let v1178 : BitVec 32 := Scalar.muli v2 c16_i32_1002
  let v1179 : BitVec 32 := Scalar.addi c0_i32_1003 v1178
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1004 : BitVec 32 := 4#32
  let v1180 : BitVec 32 := Scalar.muli v5 c4_i32_1004
  let v1181 : BitVec 32 := Scalar.addi v1179 v1180
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1005 : BitVec 32 := 1#32
  let v1182 : BitVec 32 := Scalar.muli v19 c1_i32_1005
  let v1183 : BitVec 32 := Scalar.addi v1181 v1182
  v1183.toNat
def k0_dev33 (d0 : Dev nD) : Nat :=
  let c0_i32_1036 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1035 : BitVec 32 := 16#32
  let v1220 : BitVec 32 := Scalar.muli v2 c16_i32_1035
  let v1221 : BitVec 32 := Scalar.addi c0_i32_1036 v1220
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1037 : BitVec 32 := 4#32
  let v1222 : BitVec 32 := Scalar.muli v5 c4_i32_1037
  let v1223 : BitVec 32 := Scalar.addi v1221 v1222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1038 : BitVec 32 := 1#32
  let v1224 : BitVec 32 := Scalar.muli v19 c1_i32_1038
  let v1225 : BitVec 32 := Scalar.addi v1223 v1224
  v1225.toNat
def k0_dev34 (d0 : Dev nD) : Nat :=
  let c0_i32_1054 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1053 : BitVec 32 := 16#32
  let v1245 : BitVec 32 := Scalar.muli v2 c16_i32_1053
  let v1246 : BitVec 32 := Scalar.addi c0_i32_1054 v1245
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_1055 : BitVec 32 := 4#32
  let v1247 : BitVec 32 := Scalar.muli v41 c4_i32_1055
  let v1248 : BitVec 32 := Scalar.addi v1246 v1247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1056 : BitVec 32 := 1#32
  let v1249 : BitVec 32 := Scalar.muli v8 c1_i32_1056
  let v1250 : BitVec 32 := Scalar.addi v1248 v1249
  v1250.toNat
def k0_dev35 (d0 : Dev nD) : Nat :=
  let c0_i32_1063 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1062 : BitVec 32 := 16#32
  let v1258 : BitVec 32 := Scalar.muli v53 c16_i32_1062
  let v1259 : BitVec 32 := Scalar.addi c0_i32_1063 v1258
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1064 : BitVec 32 := 4#32
  let v1260 : BitVec 32 := Scalar.muli v5 c4_i32_1064
  let v1261 : BitVec 32 := Scalar.addi v1259 v1260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1065 : BitVec 32 := 1#32
  let v1262 : BitVec 32 := Scalar.muli v8 c1_i32_1065
  let v1263 : BitVec 32 := Scalar.addi v1261 v1262
  v1263.toNat
def k0_dev36 (d0 : Dev nD) : Nat :=
  let c0_i32_1133 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1132 : BitVec 32 := 16#32
  let v1340 : BitVec 32 := Scalar.muli v2 c16_i32_1132
  let v1341 : BitVec 32 := Scalar.addi c0_i32_1133 v1340
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_1134 : BitVec 32 := 4#32
  let v1342 : BitVec 32 := Scalar.muli v41 c4_i32_1134
  let v1343 : BitVec 32 := Scalar.addi v1341 v1342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1135 : BitVec 32 := 1#32
  let v1344 : BitVec 32 := Scalar.muli v8 c1_i32_1135
  let v1345 : BitVec 32 := Scalar.addi v1343 v1344
  v1345.toNat
def k0_dev37 (d0 : Dev nD) : Nat :=
  let c0_i32_1142 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1141 : BitVec 32 := 16#32
  let v1353 : BitVec 32 := Scalar.muli v53 c16_i32_1141
  let v1354 : BitVec 32 := Scalar.addi c0_i32_1142 v1353
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1143 : BitVec 32 := 4#32
  let v1355 : BitVec 32 := Scalar.muli v5 c4_i32_1143
  let v1356 : BitVec 32 := Scalar.addi v1354 v1355
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1144 : BitVec 32 := 1#32
  let v1357 : BitVec 32 := Scalar.muli v8 c1_i32_1144
  let v1358 : BitVec 32 := Scalar.addi v1356 v1357
  v1358.toNat
def k0_off8 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v54 : BitVec 32 := Scalar.muli v2 c4096_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32 : BitVec 32 := 1024#32
  let v55 : BitVec 32 := Scalar.muli v5 c1024_i32
  let v56 : BitVec 32 := Scalar.addi v54 v55
  let c0_i32_1148 : BitVec 32 := 0#32
  ![v56.toNat, 0]
def k0_off9 (d0 : Dev nD) (c0_i32_1158 : BitVec 32) : Fin 3 → Nat :=
  let c1_i32_1176 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1157 : BitVec 32 := 1#32
  let v1381 : BitVec 32 := Scalar.addi v8 c1_i32_1157
  let v1382 : BitVec 32 := Scalar.subi v1381 c0_i32_1158
  let c4_i32_1159 : BitVec 32 := 4#32
  let c0_i32_1160 : BitVec 32 := 0#32
  let v1383 : BitVec 1 := Scalar.cmpi .eq c4_i32_1159 c0_i32_1160
  let c1_i32_1161 : BitVec 32 := 1#32
  let v1384 : BitVec 32 := Scalar.select v1383 c1_i32_1161 c4_i32_1159
  let v1385 : BitVec 32 := Scalar.remsi v1382 v1384
  let c0_i32_1163 : BitVec 32 := 0#32
  let v1387 : BitVec 1 := Scalar.cmpi .slt v1385 c0_i32_1163
  let c0_i32_1164 : BitVec 32 := 0#32
  let v1388 : BitVec 1 := Scalar.cmpi .slt v1384 c0_i32_1164
  let v1389 : BitVec 1 := Scalar.xori v1387 v1388
  let c0_i32_1162 : BitVec 32 := 0#32
  let v1386 : BitVec 1 := Scalar.cmpi .ne v1385 c0_i32_1162
  let v1390 : BitVec 1 := Scalar.andi v1389 v1386
  let v1391 : BitVec 32 := Scalar.addi v1385 v1384
  let v1392 : BitVec 32 := Scalar.select v1390 v1391 v1385
  let c256_i32_1165 : BitVec 32 := 256#32
  let v1393 : BitVec 32 := Scalar.muli v1392 c256_i32_1165
  let c0_i32_1183 : BitVec 32 := 0#32
  ![1, v1393.toNat, 0]
def k0_dev38 (d0 : Dev nD) : Nat :=
  let c0_i32_1180 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1179 : BitVec 32 := 16#32
  let v1405 : BitVec 32 := Scalar.muli v2 c16_i32_1179
  let v1406 : BitVec 32 := Scalar.addi c0_i32_1180 v1405
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_1181 : BitVec 32 := 4#32
  let v1407 : BitVec 32 := Scalar.muli v41 c4_i32_1181
  let v1408 : BitVec 32 := Scalar.addi v1406 v1407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1182 : BitVec 32 := 1#32
  let v1409 : BitVec 32 := Scalar.muli v8 c1_i32_1182
  let v1410 : BitVec 32 := Scalar.addi v1408 v1409
  v1410.toNat
def k0_off10 (d0 : Dev nD) (c0_i32_1158 : BitVec 32) : Fin 3 → Nat :=
  let c1_i32_1186 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1157 : BitVec 32 := 1#32
  let v1381 : BitVec 32 := Scalar.addi v8 c1_i32_1157
  let v1382 : BitVec 32 := Scalar.subi v1381 c0_i32_1158
  let c4_i32_1159 : BitVec 32 := 4#32
  let c0_i32_1160 : BitVec 32 := 0#32
  let v1383 : BitVec 1 := Scalar.cmpi .eq c4_i32_1159 c0_i32_1160
  let c1_i32_1161 : BitVec 32 := 1#32
  let v1384 : BitVec 32 := Scalar.select v1383 c1_i32_1161 c4_i32_1159
  let v1385 : BitVec 32 := Scalar.remsi v1382 v1384
  let c0_i32_1163 : BitVec 32 := 0#32
  let v1387 : BitVec 1 := Scalar.cmpi .slt v1385 c0_i32_1163
  let c0_i32_1164 : BitVec 32 := 0#32
  let v1388 : BitVec 1 := Scalar.cmpi .slt v1384 c0_i32_1164
  let v1389 : BitVec 1 := Scalar.xori v1387 v1388
  let c0_i32_1162 : BitVec 32 := 0#32
  let v1386 : BitVec 1 := Scalar.cmpi .ne v1385 c0_i32_1162
  let v1390 : BitVec 1 := Scalar.andi v1389 v1386
  let v1391 : BitVec 32 := Scalar.addi v1385 v1384
  let v1392 : BitVec 32 := Scalar.select v1390 v1391 v1385
  let c256_i32_1165 : BitVec 32 := 256#32
  let v1393 : BitVec 32 := Scalar.muli v1392 c256_i32_1165
  let c0_i32_1193 : BitVec 32 := 0#32
  ![1, v1393.toNat, 0]
def k0_dev39 (d0 : Dev nD) : Nat :=
  let c0_i32_1190 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1189 : BitVec 32 := 16#32
  let v1419 : BitVec 32 := Scalar.muli v53 c16_i32_1189
  let v1420 : BitVec 32 := Scalar.addi c0_i32_1190 v1419
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1191 : BitVec 32 := 4#32
  let v1421 : BitVec 32 := Scalar.muli v5 c4_i32_1191
  let v1422 : BitVec 32 := Scalar.addi v1420 v1421
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1192 : BitVec 32 := 1#32
  let v1423 : BitVec 32 := Scalar.muli v8 c1_i32_1192
  let v1424 : BitVec 32 := Scalar.addi v1422 v1423
  v1424.toNat
def k0_dev40 (d0 : Dev nD) : Nat :=
  let c0_i32_1218 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1217 : BitVec 32 := 16#32
  let v1457 : BitVec 32 := Scalar.muli v2 c16_i32_1217
  let v1458 : BitVec 32 := Scalar.addi c0_i32_1218 v1457
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_1219 : BitVec 32 := 4#32
  let v1459 : BitVec 32 := Scalar.muli v41 c4_i32_1219
  let v1460 : BitVec 32 := Scalar.addi v1458 v1459
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1220 : BitVec 32 := 1#32
  let v1461 : BitVec 32 := Scalar.muli v8 c1_i32_1220
  let v1462 : BitVec 32 := Scalar.addi v1460 v1461
  v1462.toNat
def k0_dev41 (d0 : Dev nD) : Nat :=
  let c0_i32_1228 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1227 : BitVec 32 := 16#32
  let v1471 : BitVec 32 := Scalar.muli v53 c16_i32_1227
  let v1472 : BitVec 32 := Scalar.addi c0_i32_1228 v1471
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1229 : BitVec 32 := 4#32
  let v1473 : BitVec 32 := Scalar.muli v5 c4_i32_1229
  let v1474 : BitVec 32 := Scalar.addi v1472 v1473
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1230 : BitVec 32 := 1#32
  let v1475 : BitVec 32 := Scalar.muli v8 c1_i32_1230
  let v1476 : BitVec 32 := Scalar.addi v1474 v1475
  v1476.toNat
def k0_dev42 (d0 : Dev nD) : Nat :=
  let c0_i32_1256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1255 : BitVec 32 := 16#32
  let v1509 : BitVec 32 := Scalar.muli v2 c16_i32_1255
  let v1510 : BitVec 32 := Scalar.addi c0_i32_1256 v1509
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_1257 : BitVec 32 := 4#32
  let v1511 : BitVec 32 := Scalar.muli v41 c4_i32_1257
  let v1512 : BitVec 32 := Scalar.addi v1510 v1511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1258 : BitVec 32 := 1#32
  let v1513 : BitVec 32 := Scalar.muli v8 c1_i32_1258
  let v1514 : BitVec 32 := Scalar.addi v1512 v1513
  v1514.toNat
def k0_dev43 (d0 : Dev nD) : Nat :=
  let c0_i32_1266 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1265 : BitVec 32 := 16#32
  let v1523 : BitVec 32 := Scalar.muli v53 c16_i32_1265
  let v1524 : BitVec 32 := Scalar.addi c0_i32_1266 v1523
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1267 : BitVec 32 := 4#32
  let v1525 : BitVec 32 := Scalar.muli v5 c4_i32_1267
  let v1526 : BitVec 32 := Scalar.addi v1524 v1525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1268 : BitVec 32 := 1#32
  let v1527 : BitVec 32 := Scalar.muli v8 c1_i32_1268
  let v1528 : BitVec 32 := Scalar.addi v1526 v1527
  v1528.toNat
def k0_dev44 (d0 : Dev nD) : Nat :=
  let c0_i32_1294 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1293 : BitVec 32 := 16#32
  let v1561 : BitVec 32 := Scalar.muli v2 c16_i32_1293
  let v1562 : BitVec 32 := Scalar.addi c0_i32_1294 v1561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_1295 : BitVec 32 := 4#32
  let v1563 : BitVec 32 := Scalar.muli v41 c4_i32_1295
  let v1564 : BitVec 32 := Scalar.addi v1562 v1563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1296 : BitVec 32 := 1#32
  let v1565 : BitVec 32 := Scalar.muli v8 c1_i32_1296
  let v1566 : BitVec 32 := Scalar.addi v1564 v1565
  v1566.toNat
def k0_dev45 (d0 : Dev nD) : Nat :=
  let c0_i32_1304 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1303 : BitVec 32 := 16#32
  let v1575 : BitVec 32 := Scalar.muli v53 c16_i32_1303
  let v1576 : BitVec 32 := Scalar.addi c0_i32_1304 v1575
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1305 : BitVec 32 := 4#32
  let v1577 : BitVec 32 := Scalar.muli v5 c4_i32_1305
  let v1578 : BitVec 32 := Scalar.addi v1576 v1577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1306 : BitVec 32 := 1#32
  let v1579 : BitVec 32 := Scalar.muli v8 c1_i32_1306
  let v1580 : BitVec 32 := Scalar.addi v1578 v1579
  v1580.toNat
def k0_off11 (d0 : Dev nD) (c0_i32_1149 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32_1309 : BitVec 32 := 4096#32
  let v1589 : BitVec 32 := Scalar.muli v2 c4096_i32_1309
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1369 : BitVec 32 := Scalar.subi v5 c0_i32_1149
  let c1_i32_1150 : BitVec 32 := 1#32
  let v1370 : BitVec 32 := Scalar.subi v1369 c1_i32_1150
  let c4_i32_1151 : BitVec 32 := 4#32
  let c0_i32_1152 : BitVec 32 := 0#32
  let v1371 : BitVec 1 := Scalar.cmpi .eq c4_i32_1151 c0_i32_1152
  let c1_i32_1153 : BitVec 32 := 1#32
  let v1372 : BitVec 32 := Scalar.select v1371 c1_i32_1153 c4_i32_1151
  let v1373 : BitVec 32 := Scalar.remsi v1370 v1372
  let c0_i32_1155 : BitVec 32 := 0#32
  let v1375 : BitVec 1 := Scalar.cmpi .slt v1373 c0_i32_1155
  let c0_i32_1156 : BitVec 32 := 0#32
  let v1376 : BitVec 1 := Scalar.cmpi .slt v1372 c0_i32_1156
  let v1377 : BitVec 1 := Scalar.xori v1375 v1376
  let c0_i32_1154 : BitVec 32 := 0#32
  let v1374 : BitVec 1 := Scalar.cmpi .ne v1373 c0_i32_1154
  let v1378 : BitVec 1 := Scalar.andi v1377 v1374
  let v1379 : BitVec 32 := Scalar.addi v1373 v1372
  let v1380 : BitVec 32 := Scalar.select v1378 v1379 v1373
  let c1024_i32_1310 : BitVec 32 := 1024#32
  let v1590 : BitVec 32 := Scalar.muli v1380 c1024_i32_1310
  let v1591 : BitVec 32 := Scalar.addi v1589 v1590
  let c0_i32_1313 : BitVec 32 := 0#32
  ![v1591.toNat, 0]
def k0_off12 (d0 : Dev nD) (c0_i32_1325 : BitVec 32) : Fin 3 → Nat :=
  let c2_i32_1343 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1324 : BitVec 32 := 1#32
  let v1609 : BitVec 32 := Scalar.addi v8 c1_i32_1324
  let v1610 : BitVec 32 := Scalar.subi v1609 c0_i32_1325
  let c4_i32_1326 : BitVec 32 := 4#32
  let c0_i32_1327 : BitVec 32 := 0#32
  let v1611 : BitVec 1 := Scalar.cmpi .eq c4_i32_1326 c0_i32_1327
  let c1_i32_1328 : BitVec 32 := 1#32
  let v1612 : BitVec 32 := Scalar.select v1611 c1_i32_1328 c4_i32_1326
  let v1613 : BitVec 32 := Scalar.remsi v1610 v1612
  let c0_i32_1330 : BitVec 32 := 0#32
  let v1615 : BitVec 1 := Scalar.cmpi .slt v1613 c0_i32_1330
  let c0_i32_1331 : BitVec 32 := 0#32
  let v1616 : BitVec 1 := Scalar.cmpi .slt v1612 c0_i32_1331
  let v1617 : BitVec 1 := Scalar.xori v1615 v1616
  let c0_i32_1329 : BitVec 32 := 0#32
  let v1614 : BitVec 1 := Scalar.cmpi .ne v1613 c0_i32_1329
  let v1618 : BitVec 1 := Scalar.andi v1617 v1614
  let v1619 : BitVec 32 := Scalar.addi v1613 v1612
  let v1620 : BitVec 32 := Scalar.select v1618 v1619 v1613
  let c256_i32_1332 : BitVec 32 := 256#32
  let v1621 : BitVec 32 := Scalar.muli v1620 c256_i32_1332
  let c0_i32_1350 : BitVec 32 := 0#32
  ![2, v1621.toNat, 0]
def k0_dev46 (d0 : Dev nD) : Nat :=
  let c0_i32_1347 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1346 : BitVec 32 := 16#32
  let v1633 : BitVec 32 := Scalar.muli v2 c16_i32_1346
  let v1634 : BitVec 32 := Scalar.addi c0_i32_1347 v1633
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_1348 : BitVec 32 := 4#32
  let v1635 : BitVec 32 := Scalar.muli v41 c4_i32_1348
  let v1636 : BitVec 32 := Scalar.addi v1634 v1635
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1349 : BitVec 32 := 1#32
  let v1637 : BitVec 32 := Scalar.muli v8 c1_i32_1349
  let v1638 : BitVec 32 := Scalar.addi v1636 v1637
  v1638.toNat
def k0_off13 (d0 : Dev nD) (c0_i32_1325 : BitVec 32) : Fin 3 → Nat :=
  let c2_i32_1353 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1324 : BitVec 32 := 1#32
  let v1609 : BitVec 32 := Scalar.addi v8 c1_i32_1324
  let v1610 : BitVec 32 := Scalar.subi v1609 c0_i32_1325
  let c4_i32_1326 : BitVec 32 := 4#32
  let c0_i32_1327 : BitVec 32 := 0#32
  let v1611 : BitVec 1 := Scalar.cmpi .eq c4_i32_1326 c0_i32_1327
  let c1_i32_1328 : BitVec 32 := 1#32
  let v1612 : BitVec 32 := Scalar.select v1611 c1_i32_1328 c4_i32_1326
  let v1613 : BitVec 32 := Scalar.remsi v1610 v1612
  let c0_i32_1330 : BitVec 32 := 0#32
  let v1615 : BitVec 1 := Scalar.cmpi .slt v1613 c0_i32_1330
  let c0_i32_1331 : BitVec 32 := 0#32
  let v1616 : BitVec 1 := Scalar.cmpi .slt v1612 c0_i32_1331
  let v1617 : BitVec 1 := Scalar.xori v1615 v1616
  let c0_i32_1329 : BitVec 32 := 0#32
  let v1614 : BitVec 1 := Scalar.cmpi .ne v1613 c0_i32_1329
  let v1618 : BitVec 1 := Scalar.andi v1617 v1614
  let v1619 : BitVec 32 := Scalar.addi v1613 v1612
  let v1620 : BitVec 32 := Scalar.select v1618 v1619 v1613
  let c256_i32_1332 : BitVec 32 := 256#32
  let v1621 : BitVec 32 := Scalar.muli v1620 c256_i32_1332
  let c0_i32_1360 : BitVec 32 := 0#32
  ![2, v1621.toNat, 0]
def k0_dev47 (d0 : Dev nD) : Nat :=
  let c0_i32_1357 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1356 : BitVec 32 := 16#32
  let v1647 : BitVec 32 := Scalar.muli v53 c16_i32_1356
  let v1648 : BitVec 32 := Scalar.addi c0_i32_1357 v1647
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1358 : BitVec 32 := 4#32
  let v1649 : BitVec 32 := Scalar.muli v5 c4_i32_1358
  let v1650 : BitVec 32 := Scalar.addi v1648 v1649
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1359 : BitVec 32 := 1#32
  let v1651 : BitVec 32 := Scalar.muli v8 c1_i32_1359
  let v1652 : BitVec 32 := Scalar.addi v1650 v1651
  v1652.toNat
def k0_dev48 (d0 : Dev nD) : Nat :=
  let c0_i32_1385 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1384 : BitVec 32 := 16#32
  let v1685 : BitVec 32 := Scalar.muli v2 c16_i32_1384
  let v1686 : BitVec 32 := Scalar.addi c0_i32_1385 v1685
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_1386 : BitVec 32 := 4#32
  let v1687 : BitVec 32 := Scalar.muli v41 c4_i32_1386
  let v1688 : BitVec 32 := Scalar.addi v1686 v1687
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1387 : BitVec 32 := 1#32
  let v1689 : BitVec 32 := Scalar.muli v8 c1_i32_1387
  let v1690 : BitVec 32 := Scalar.addi v1688 v1689
  v1690.toNat
def k0_dev49 (d0 : Dev nD) : Nat :=
  let c0_i32_1395 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1394 : BitVec 32 := 16#32
  let v1699 : BitVec 32 := Scalar.muli v53 c16_i32_1394
  let v1700 : BitVec 32 := Scalar.addi c0_i32_1395 v1699
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1396 : BitVec 32 := 4#32
  let v1701 : BitVec 32 := Scalar.muli v5 c4_i32_1396
  let v1702 : BitVec 32 := Scalar.addi v1700 v1701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1397 : BitVec 32 := 1#32
  let v1703 : BitVec 32 := Scalar.muli v8 c1_i32_1397
  let v1704 : BitVec 32 := Scalar.addi v1702 v1703
  v1704.toNat
def k0_dev50 (d0 : Dev nD) : Nat :=
  let c0_i32_1423 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1422 : BitVec 32 := 16#32
  let v1737 : BitVec 32 := Scalar.muli v2 c16_i32_1422
  let v1738 : BitVec 32 := Scalar.addi c0_i32_1423 v1737
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_1424 : BitVec 32 := 4#32
  let v1739 : BitVec 32 := Scalar.muli v41 c4_i32_1424
  let v1740 : BitVec 32 := Scalar.addi v1738 v1739
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1425 : BitVec 32 := 1#32
  let v1741 : BitVec 32 := Scalar.muli v8 c1_i32_1425
  let v1742 : BitVec 32 := Scalar.addi v1740 v1741
  v1742.toNat
def k0_dev51 (d0 : Dev nD) : Nat :=
  let c0_i32_1433 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1432 : BitVec 32 := 16#32
  let v1751 : BitVec 32 := Scalar.muli v53 c16_i32_1432
  let v1752 : BitVec 32 := Scalar.addi c0_i32_1433 v1751
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1434 : BitVec 32 := 4#32
  let v1753 : BitVec 32 := Scalar.muli v5 c4_i32_1434
  let v1754 : BitVec 32 := Scalar.addi v1752 v1753
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1435 : BitVec 32 := 1#32
  let v1755 : BitVec 32 := Scalar.muli v8 c1_i32_1435
  let v1756 : BitVec 32 := Scalar.addi v1754 v1755
  v1756.toNat
def k0_dev52 (d0 : Dev nD) : Nat :=
  let c0_i32_1461 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1460 : BitVec 32 := 16#32
  let v1789 : BitVec 32 := Scalar.muli v2 c16_i32_1460
  let v1790 : BitVec 32 := Scalar.addi c0_i32_1461 v1789
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_1462 : BitVec 32 := 4#32
  let v1791 : BitVec 32 := Scalar.muli v41 c4_i32_1462
  let v1792 : BitVec 32 := Scalar.addi v1790 v1791
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1463 : BitVec 32 := 1#32
  let v1793 : BitVec 32 := Scalar.muli v8 c1_i32_1463
  let v1794 : BitVec 32 := Scalar.addi v1792 v1793
  v1794.toNat
def k0_dev53 (d0 : Dev nD) : Nat :=
  let c0_i32_1471 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1470 : BitVec 32 := 16#32
  let v1803 : BitVec 32 := Scalar.muli v53 c16_i32_1470
  let v1804 : BitVec 32 := Scalar.addi c0_i32_1471 v1803
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1472 : BitVec 32 := 4#32
  let v1805 : BitVec 32 := Scalar.muli v5 c4_i32_1472
  let v1806 : BitVec 32 := Scalar.addi v1804 v1805
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1473 : BitVec 32 := 1#32
  let v1807 : BitVec 32 := Scalar.muli v8 c1_i32_1473
  let v1808 : BitVec 32 := Scalar.addi v1806 v1807
  v1808.toNat
def k0_off14 (d0 : Dev nD) (c0_i32_1492 : BitVec 32) : Fin 3 → Nat :=
  let c3_i32_1510 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1491 : BitVec 32 := 1#32
  let v1837 : BitVec 32 := Scalar.addi v8 c1_i32_1491
  let v1838 : BitVec 32 := Scalar.subi v1837 c0_i32_1492
  let c4_i32_1493 : BitVec 32 := 4#32
  let c0_i32_1494 : BitVec 32 := 0#32
  let v1839 : BitVec 1 := Scalar.cmpi .eq c4_i32_1493 c0_i32_1494
  let c1_i32_1495 : BitVec 32 := 1#32
  let v1840 : BitVec 32 := Scalar.select v1839 c1_i32_1495 c4_i32_1493
  let v1841 : BitVec 32 := Scalar.remsi v1838 v1840
  let c0_i32_1497 : BitVec 32 := 0#32
  let v1843 : BitVec 1 := Scalar.cmpi .slt v1841 c0_i32_1497
  let c0_i32_1498 : BitVec 32 := 0#32
  let v1844 : BitVec 1 := Scalar.cmpi .slt v1840 c0_i32_1498
  let v1845 : BitVec 1 := Scalar.xori v1843 v1844
  let c0_i32_1496 : BitVec 32 := 0#32
  let v1842 : BitVec 1 := Scalar.cmpi .ne v1841 c0_i32_1496
  let v1846 : BitVec 1 := Scalar.andi v1845 v1842
  let v1847 : BitVec 32 := Scalar.addi v1841 v1840
  let v1848 : BitVec 32 := Scalar.select v1846 v1847 v1841
  let c256_i32_1499 : BitVec 32 := 256#32
  let v1849 : BitVec 32 := Scalar.muli v1848 c256_i32_1499
  let c0_i32_1516 : BitVec 32 := 0#32
  ![3, v1849.toNat, 0]
def k0_dev54 (d0 : Dev nD) : Nat :=
  let c0_i32_1513 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1512 : BitVec 32 := 16#32
  let v1861 : BitVec 32 := Scalar.muli v53 c16_i32_1512
  let v1862 : BitVec 32 := Scalar.addi c0_i32_1513 v1861
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1514 : BitVec 32 := 4#32
  let v1863 : BitVec 32 := Scalar.muli v5 c4_i32_1514
  let v1864 : BitVec 32 := Scalar.addi v1862 v1863
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1515 : BitVec 32 := 1#32
  let v1865 : BitVec 32 := Scalar.muli v8 c1_i32_1515
  let v1866 : BitVec 32 := Scalar.addi v1864 v1865
  v1866.toNat
def k0_dev55 (d0 : Dev nD) : Nat :=
  let c0_i32_1540 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1539 : BitVec 32 := 16#32
  let v1899 : BitVec 32 := Scalar.muli v53 c16_i32_1539
  let v1900 : BitVec 32 := Scalar.addi c0_i32_1540 v1899
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1541 : BitVec 32 := 4#32
  let v1901 : BitVec 32 := Scalar.muli v5 c4_i32_1541
  let v1902 : BitVec 32 := Scalar.addi v1900 v1901
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1542 : BitVec 32 := 1#32
  let v1903 : BitVec 32 := Scalar.muli v8 c1_i32_1542
  let v1904 : BitVec 32 := Scalar.addi v1902 v1903
  v1904.toNat
def k0_dev56 (d0 : Dev nD) : Nat :=
  let c0_i32_1567 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1566 : BitVec 32 := 16#32
  let v1937 : BitVec 32 := Scalar.muli v53 c16_i32_1566
  let v1938 : BitVec 32 := Scalar.addi c0_i32_1567 v1937
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1568 : BitVec 32 := 4#32
  let v1939 : BitVec 32 := Scalar.muli v5 c4_i32_1568
  let v1940 : BitVec 32 := Scalar.addi v1938 v1939
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1569 : BitVec 32 := 1#32
  let v1941 : BitVec 32 := Scalar.muli v8 c1_i32_1569
  let v1942 : BitVec 32 := Scalar.addi v1940 v1941
  v1942.toNat
def k0_dev57 (d0 : Dev nD) : Nat :=
  let c0_i32_1594 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1593 : BitVec 32 := 16#32
  let v1975 : BitVec 32 := Scalar.muli v53 c16_i32_1593
  let v1976 : BitVec 32 := Scalar.addi c0_i32_1594 v1975
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1595 : BitVec 32 := 4#32
  let v1977 : BitVec 32 := Scalar.muli v5 c4_i32_1595
  let v1978 : BitVec 32 := Scalar.addi v1976 v1977
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1596 : BitVec 32 := 1#32
  let v1979 : BitVec 32 := Scalar.muli v8 c1_i32_1596
  let v1980 : BitVec 32 := Scalar.addi v1978 v1979
  v1980.toNat
def k0_off15 (d0 : Dev nD) (c0_i32_1607 : BitVec 32) : Fin 2 → Nat :=
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c4096_i32_1606 : BitVec 32 := 4096#32
  let v1997 : BitVec 32 := Scalar.muli v53 c4096_i32_1606
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1998 : BitVec 32 := Scalar.subi v5 c0_i32_1607
  let c4_i32_1608 : BitVec 32 := 4#32
  let c0_i32_1609 : BitVec 32 := 0#32
  let v1999 : BitVec 1 := Scalar.cmpi .eq c4_i32_1608 c0_i32_1609
  let c1_i32_1610 : BitVec 32 := 1#32
  let v2000 : BitVec 32 := Scalar.select v1999 c1_i32_1610 c4_i32_1608
  let v2001 : BitVec 32 := Scalar.remsi v1998 v2000
  let c0_i32_1612 : BitVec 32 := 0#32
  let v2003 : BitVec 1 := Scalar.cmpi .slt v2001 c0_i32_1612
  let c0_i32_1613 : BitVec 32 := 0#32
  let v2004 : BitVec 1 := Scalar.cmpi .slt v2000 c0_i32_1613
  let v2005 : BitVec 1 := Scalar.xori v2003 v2004
  let c0_i32_1611 : BitVec 32 := 0#32
  let v2002 : BitVec 1 := Scalar.cmpi .ne v2001 c0_i32_1611
  let v2006 : BitVec 1 := Scalar.andi v2005 v2002
  let v2007 : BitVec 32 := Scalar.addi v2001 v2000
  let v2008 : BitVec 32 := Scalar.select v2006 v2007 v2001
  let c1024_i32_1686 : BitVec 32 := 1024#32
  let v2105 : BitVec 32 := Scalar.muli v2008 c1024_i32_1686
  let v2106 : BitVec 32 := Scalar.addi v1997 v2105
  let c0_i32_1689 : BitVec 32 := 0#32
  ![v2106.toNat, 0]
-- ==== ReferenceIdeal.lean ====
abbrev S32768x1024 : Shape := ⟨2, ![32768, 1024]⟩
abbrev S4x8192x1024 : Shape := ⟨3, ![4, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x8192x1024, .f32⟩
  | .hbm, ⟨2, _⟩ => ⟨S_, .f32⟩
  | .hbm, ⟨3, _⟩ => ⟨S8192x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
/-
  The kernel's program, restated as a list of commands.

  The printed kernel is one straight line of effects. Every copy in it goes from one block of one buffer to
  another block, so this module names the blocks (`Blk`), the remote copies (`Tr`) and the local copies (`Lc`)
  and writes the kernel as a list of `Cmd`s over those names. `body_eq_run` says that the list, run command by
  command, is the printed kernel.
-/
module

public import proofs.«01_k».proof.Proof.Gen.KernelIdeal
public import proofs.«01_k».proof.Proof.Gen.KernelIdeal.Points
public import Idealize.ShloMosaic.Lib.Pipeline.Regions

@[expose] public section

noncomputable section

namespace Cert.KernelIdeal.Run

open Idealize.ShloMosaic Idealize.SL.Sem
open Cert.KernelIdeal Cert.KernelIdeal.Facts₀ Cert.KernelIdeal.Facts

variable {F : FTy → Type} [FloatOps F]

/-! ## Blocks -/

/-- The three heights of a copied block: 64, 256 and 1024 rows. Every block is 1024 columns wide. -/
inductive Ht | s | m | l
  deriving DecidableEq

/-- A block's height in units of 64 rows. -/
def Ht.u : Ht → ℕ | .s => 1 | .m => 4 | .l => 16

/-- A block's shape. -/
abbrev Ht.shape : Ht → Shape | .s => S64x1024 | .m => S256x1024 | .l => S1024x1024

/-- The buffers the kernel moves data between: the argument, the result and the five scratch buffers. -/
inductive Bf | arg | out | comm | stage | qb | yb | xb
  deriving DecidableEq

/-- The memory space of a buffer. -/
abbrev Bf.sp : Bf → Space | .arg | .out => .hbm | _ => .vmem

/-- The blocks the kernel's copies name, by height: in the argument the ring's first block in four parts (`xq`) and
    the three staged blocks (`xs`); slot `s` of the ring buffer in four parts (`cm`) and its last slot whole
    (`cm2`); the staging slots (`sg`); in the quarter buffer the part a device forwards in step `s` (`qa`), its own
    block (`qm`), the pieces in the order they become ready (`q`) and the whole (`qw`); piece `i` of slot `t` of the
    two exchange buffers (`y`, `x`) and their slots whole (`yw`, `xw`); the eight quarters of the result (`o0`, `oy`,
    `ox`). -/
inductive Blk : Ht → Type
  | xq (j : Fin 4) : Blk .s
  | cm (s : Fin 3) (j : Fin 4) : Blk .s
  | qa (s : Fin 3) (j : Fin 4) : Blk .s
  | xs (s : Fin 3) : Blk .m
  | sg (s : Fin 3) : Blk .m
  | cm2 : Blk .m
  | qm : Blk .m
  | q (i : Fin 4) : Blk .m
  | y (t : Fin 3) (i : Fin 4) : Blk .m
  | x (b : Fin 4) (i : Fin 4) : Blk .m
  | qw : Blk .l
  | yw (t : Fin 3) : Blk .l
  | xw (b : Fin 4) : Blk .l
  | o0 : Blk .l
  | oy (t : Fin 3) : Blk .l
  | ox (b : Fin 4) : Blk .l

/-- The buffer a block lies in. -/
abbrev Blk.buf : {h : Ht} → Blk h → Bf
  | _, .xq _ | _, .xs _ => .arg
  | _, .cm _ _ | _, .cm2 => .comm
  | _, .sg _ => .stage
  | _, .qa _ _ | _, .qm | _, .q _ | _, .qw => .qb
  | _, .y _ _ | _, .yw _ => .yb
  | _, .x _ _ | _, .xw _ => .xb
  | _, .o0 | _, .oy _ | _, .ox _ => .out

/-- The offsets of piece `i` of slot `t` of the y exchange buffer, as the kernel computes them. -/
abbrev offY (c : Dev nD) (i : Fin 4) : Fin 3 → Fin 3 → ℕ :=
  ![k0_off5 c (BitVec.ofNat 32 i.val), k0_off9 c (BitVec.ofNat 32 i.val), k0_off12 c (BitVec.ofNat 32 i.val)]

/-- The offsets of piece `i` of slot `b` of the x exchange buffer, as the kernel computes them. -/
abbrev offX (c : Dev nD) (i : Fin 4) : Fin 4 → Fin 3 → ℕ :=
  ![k0_off7 c (BitVec.ofNat 32 i.val), k0_off10 c (BitVec.ofNat 32 i.val), k0_off13 c (BitVec.ofNat 32 i.val),
    k0_off14 c (BitVec.ofNat 32 i.val)]

theorem offY_inb (c : Dev nD) (t : Fin 3) (i : Fin 4) : ∀ a, offY c i t a + S1x256x1024.size a ≤ S3x1024x1024.size a := by
  fin_cases t
  · exact k0_off5_inb c i
  · exact k0_off9_inb c i
  · exact k0_off12_inb c i

theorem offX_inb (c : Dev nD) (b : Fin 4) (i : Fin 4) : ∀ a, offX c i b a + S1x256x1024.size a ≤ S4x1024x1024.size a := by
  fin_cases b
  · exact k0_off7_inb c i
  · exact k0_off10_inb c i
  · exact k0_off13_inb c i
  · exact k0_off14_inb c i

theorem cm_inb (s : Fin 3) (j : Fin 4) :
    ∀ a, (![s.val, 64 * j.val, 0] : Fin 3 → ℕ) a + S1x64x1024.size a ≤ S3x256x1024.size a := by
  revert s j; decide

theorem slot3_inb (s : Fin 3) :
    ∀ a, (![s.val, 0, 0] : Fin 3 → ℕ) a + S1x256x1024.size a ≤ S3x256x1024.size a := by
  revert s; decide

theorem yw_inb (t : Fin 3) :
    ∀ a, (![t.val, 0, 0] : Fin 3 → ℕ) a + S1x1024x1024.size a ≤ S3x1024x1024.size a := by
  revert t; decide

theorem xw_inb (b : Fin 4) :
    ∀ a, (![b.val, 0, 0] : Fin 3 → ℕ) a + S1x1024x1024.size a ≤ S4x1024x1024.size a := by
  revert b; decide

/-- The memory reference of a block, at the offsets device `c` computes. -/
def mr (c : Dev nD) : {h : Ht} → (b : Blk h) → Memref sig .tc b.buf.sp h.shape .f32
  | _, .xq j => (Memref.whole main_arg0).slice (Rect.unit (s := S8192x1024) (k0_off2 c (BitVec.ofNat 32 (64 * j.val))) S64x1024.size (k0_off2_inb c j)) (fun _ => rfl)
  | _, .xs s => (Memref.whole main_arg0).slice (Rect.unit (s := S8192x1024) (k0_off1 c (BitVec.ofNat 32 s.val)) S256x1024.size (k0_off1_inb c s)) (fun _ => rfl)
  | _, .cm s j => ((Memref.whole cc0_scratch0).slice (Rect.unit (s := S3x256x1024) ![s.val, 64 * j.val, 0] S1x64x1024.size (cm_inb s j)) (fun _ => rfl)).squeeze S64x1024 squeezes_S1x64x1024_S64x1024
  | _, .cm2 => ((Memref.whole cc0_scratch0).slice (Rect.unit (s := S3x256x1024) ![2, 0, 0] S1x256x1024.size (slot3_inb 2)) (fun _ => rfl)).squeeze S256x1024 squeezes_S1x256x1024_S256x1024
  | _, .sg s => ((Memref.whole cc0_scratch1).slice (Rect.unit (s := S3x256x1024) ![s.val, 0, 0] S1x256x1024.size (slot3_inb s)) (fun _ => rfl)).squeeze S256x1024 squeezes_S1x256x1024_S256x1024
  | _, .qa s j => (Memref.whole cc0_scratch2).slice (Rect.unit (s := S1024x1024) (k0_off3 c (BitVec.ofNat 32 s.val) (BitVec.ofNat 32 (64 * j.val))) S64x1024.size (k0_off3_inb c s j)) (fun _ => rfl)
  | _, .qm => (Memref.whole cc0_scratch2).slice (Rect.unit (s := S1024x1024) (k0_off4 c) S256x1024.size (k0_off4_inb c)) (fun _ => rfl)
  | _, .q i => (Memref.whole cc0_scratch2).slice (Rect.unit (s := S1024x1024) (k0_off6 c (BitVec.ofNat 32 i.val)) S256x1024.size (k0_off6_inb c i)) (fun _ => rfl)
  | _, .qw => Memref.whole cc0_scratch2
  | _, .y t i => ((Memref.whole cc0_scratch3).slice (Rect.unit (s := S3x1024x1024) (offY c i t) S1x256x1024.size (offY_inb c t i)) (fun _ => rfl)).squeeze S256x1024 squeezes_S1x256x1024_S256x1024
  | _, .yw t => ((Memref.whole cc0_scratch3).slice (Rect.unit (s := S3x1024x1024) ![t.val, 0, 0] S1x1024x1024.size (yw_inb t)) (fun _ => rfl)).squeeze S1024x1024 squeezes_S1x1024x1024_S1024x1024
  | _, .x b i => ((Memref.whole cc0_scratch4).slice (Rect.unit (s := S4x1024x1024) (offX c i b) S1x256x1024.size (offX_inb c b i)) (fun _ => rfl)).squeeze S256x1024 squeezes_S1x256x1024_S256x1024
  | _, .xw b => ((Memref.whole cc0_scratch4).slice (Rect.unit (s := S4x1024x1024) ![b.val, 0, 0] S1x1024x1024.size (xw_inb b)) (fun _ => rfl)).squeeze S1024x1024 squeezes_S1x1024x1024_S1024x1024
  | _, .o0 => (Memref.whole main_v1).slice (Rect.unit (s := S8192x1024) (k0_off8 c) S1024x1024.size (k0_off8_inb c)) (fun _ => rfl)
  | _, .oy t => (Memref.whole main_v1).slice (Rect.unit (s := S8192x1024) (k0_off11 c (BitVec.ofNat 32 t.val)) S1024x1024.size (k0_off11_inb c t)) (fun _ => rfl)
  | _, .ox b => (Memref.whole main_v1).slice (Rect.unit (s := S8192x1024) (k0_off15 c (BitVec.ofNat 32 b.val)) S1024x1024.size (k0_off15_inb c b)) (fun _ => rfl)

/-- Every block is copied in whole words: its elements are 32 bits wide. -/
theorem mr_words (c : Dev nD) {h : Ht} (b : Blk h) : (mr c b).view.WordExact := by
  cases b <;> first | exact View.wordExact_bits rfl | exact (View.wordExact_bits rfl).reshape _ _

/-! ## Copies -/

/-- The remote copies: step `s` of the ring reduction (`zs`) and of the ring gathering (`za`), part `j`; hop `t` along y
    (`y`) and filling of slot `b` across x (`x`), piece `i`. -/
inductive Tr
  | zs (s : Fin 3) (j : Fin 4)
  | za (s : Fin 3) (j : Fin 4)
  | y (t : Fin 3) (i : Fin 4)
  | x (b : Fin 4) (i : Fin 4)
  deriving DecidableEq

/-- The local copies: staging block `s` of the argument (`st`), a device's own reduced block into the quarter buffer
    (`cp`), and the eight quarters of the result (`o`, `xo`). -/
inductive Lc
  | st (s : Fin 3)
  | cp
  | o (k : Fin 4)
  | xo (b : Fin 4)
  deriving DecidableEq

/-- The height of a remote copy's block. -/
abbrev Tr.ht : Tr → Ht | .zs _ _ | .za _ _ => .s | .y _ _ | .x _ _ => .m

/-- Where a remote copy reads. -/
abbrev Tr.src : (t : Tr) → Blk t.ht
  | .zs 0 j => .xq j | .zs 1 j => .cm 0 j | .zs 2 j => .cm 1 j
  | .za 0 j => .cm 2 j | .za 1 j => .qa 1 j | .za 2 j => .qa 2 j
  | .y 0 i => .q i | .y 1 i => .y 0 i | .y 2 i => .y 1 i
  | .x 0 i => .q i | .x 1 i => .y 0 i | .x 2 i => .y 1 i | .x 3 i => .y 2 i

/-- Where a remote copy writes, on the target device. -/
abbrev Tr.dst : (t : Tr) → Blk t.ht
  | .zs s j => .cm s j | .za s j => .qa s j | .y t i => .y t i | .x b i => .x b i

/-- The source block that the wait for a remote copy's arrival names. -/
abbrev Tr.named : (t : Tr) → Blk t.ht
  | .y _ i => .q i | .x _ i => .q i
  | .zs s j => (Tr.zs s j).src | .za s j => (Tr.za s j).src

/-- The height of a local copy's block. -/
abbrev Lc.ht : Lc → Ht | .st _ | .cp => .m | _ => .l

/-- Where a local copy reads. -/
abbrev Lc.src : (l : Lc) → Blk l.ht
  | .st s => .xs s | .cp => .cm2
  | .o 0 => .qw | .o 1 => .yw 0 | .o 2 => .yw 1 | .o 3 => .yw 2
  | .xo b => .xw b

/-- Where a local copy writes. -/
abbrev Lc.dst : (l : Lc) → Blk l.ht
  | .st s => .sg s | .cp => .qm
  | .o 0 => .o0 | .o 1 => .oy 0 | .o 2 => .oy 1 | .o 3 => .oy 2
  | .xo b => .ox b

/-- The semaphore of the sending device that a remote copy credits when its source may be reused. -/
def Tr.ss : Tr → DmaSem sig
  | .zs s j => ⟨4 * s.val + j.val, by have := s.isLt; have := j.isLt; show _ < 116; omega⟩
  | .za s j => ⟨24 + (4 * s.val + j.val), by have := s.isLt; have := j.isLt; show _ < 116; omega⟩
  | .y t i => ⟨48 + (4 * t.val + i.val), by have := t.isLt; have := i.isLt; show _ < 116; omega⟩
  | .x b i => ⟨72 + (4 * b.val + i.val), by have := b.isLt; have := i.isLt; show _ < 116; omega⟩

/-- The semaphore of the receiving device that a remote copy credits on arrival. -/
def Tr.rs : Tr → DmaSem sig
  | .zs s j => ⟨12 + (4 * s.val + j.val), by have := s.isLt; have := j.isLt; show _ < 116; omega⟩
  | .za s j => ⟨36 + (4 * s.val + j.val), by have := s.isLt; have := j.isLt; show _ < 116; omega⟩
  | .y t i => ⟨60 + (4 * t.val + i.val), by have := t.isLt; have := i.isLt; show _ < 116; omega⟩
  | .x b i => ⟨88 + (4 * b.val + i.val), by have := b.isLt; have := i.isLt; show _ < 116; omega⟩

/-- The semaphore of a local copy. -/
def Lc.sem : Lc → DmaSem sig
  | .cp => ⟨104, by decide⟩
  | .st s => ⟨105 + s.val, by have := s.isLt; show _ < 116; omega⟩
  | .o k => ⟨108 + k.val, by have := k.isLt; show _ < 116; omega⟩
  | .xo b => ⟨112 + b.val, by have := b.isLt; show _ < 116; omega⟩

/-- The place of a remote copy in the order the kernel starts them. -/
def Tr.no : Tr → ℕ
  | .zs s j => 4 * s.val + j.val
  | .za 0 j => 12 + j.val | .za 1 j => 18 + j.val | .za 2 j => 24 + j.val
  | .y 0 i => ![16, 22, 28, 30] i
  | .y 1 i => 32 + 2 * i.val | .y 2 i => 40 + 2 * i.val
  | .x 0 i => ![17, 23, 29, 31] i
  | .x 1 i => 33 + 2 * i.val | .x 2 i => 41 + 2 * i.val | .x 3 i => 48 + i.val

theorem Tr.no_lt : ∀ t : Tr, 5 + t.no < 57
  | .zs s j => by revert s j; decide
  | .za s j => by revert s j; decide
  | .y t i => by revert t i; decide
  | .x b i => by revert b i; decide

/-- The device the kernel's `n`-th signal or remote copy addresses, as the kernel computes it. -/
def devTab : Fin 57 → Dev nD → ℕ :=
  ![k0_dev1, k0_dev2, k0_dev3, k0_dev4, k0_dev5, k0_dev6, k0_dev7, k0_dev8, k0_dev9, k0_dev10, k0_dev11, k0_dev12, k0_dev13, k0_dev14, k0_dev15, k0_dev16, k0_dev17, k0_dev18, k0_dev19, k0_dev20, k0_dev21, k0_dev22, k0_dev23, k0_dev24, k0_dev25, k0_dev26, k0_dev27, k0_dev28, k0_dev29, k0_dev30, k0_dev31, k0_dev32, k0_dev33, k0_dev34, k0_dev35, k0_dev36, k0_dev37, k0_dev38, k0_dev39, k0_dev40, k0_dev41, k0_dev42, k0_dev43, k0_dev44, k0_dev45, k0_dev46, k0_dev47, k0_dev48, k0_dev49, k0_dev50, k0_dev51, k0_dev52, k0_dev53, k0_dev54, k0_dev55, k0_dev56, k0_dev57]

set_option maxRecDepth 100000 in
theorem devTab_lt : ∀ (n : Fin 57) (c : Dev nD), devTab n c < nD := by
  decide +kernel

/-- The device addressed by signal `k` of the starting barrier. -/
def sigDev (c : Dev nD) (k : Fin 5) : Dev nD := ⟨devTab ⟨k.val, by omega⟩ c, devTab_lt _ _⟩

/-- The device a remote copy addresses. -/
def Tr.dev (c : Dev nD) (t : Tr) : Dev nD := ⟨devTab ⟨5 + t.no, t.no_lt⟩ c, devTab_lt _ _⟩

theorem Tr.typed (c : Dev nD) (t : Tr) :
    (DmaTarget.remote (τ := τ) (p := .tc) (Dev.tc (t.dev c)) (mr c t.dst) (.dma t.ss)).Typed t.src.buf.sp (.dma t.rs) := by
  refine ⟨⟨rfl, Or.inl rfl⟩, ?_⟩
  rcases t with ⟨s, j⟩ | ⟨s, j⟩ | ⟨s, j⟩ | ⟨s, j⟩ <;> fin_cases s <;> exact trivial

theorem Lc.typed (c : Dev nD) (l : Lc) :
    (DmaTarget.here (nD := nD) (τ := τ) (p := .tc) (mr c l.dst)).Typed l.src.buf.sp (.dma l.sem) := by
  refine ⟨Or.inl rfl, ?_⟩
  rcases l with s | _ | s | s <;> (try fin_cases s) <;> exact trivial

/-! ## Commands -/

/-- The barrier's semaphore. -/
abbrev barSem : Sem sig := (SemArray.scalar (sig.barrier 0 rfl) : Sems sig S_).sem

/-- One step of the kernel: a signal of the starting barrier, the wait for it, the start of a remote or of a local
    copy, the wait for a remote copy's source or arrival or for a local copy, and the addition of part `j` of the
    staged block to slot `s`. -/
inductive Cmd
  | sig (k : Fin 5)
  | bar
  | go (t : Tr)
  | cpy (l : Lc)
  | ws (t : Tr)
  | wr (t : Tr)
  | wl (l : Lc)
  | add (s : Fin 3) (j : Fin 4)
  deriving DecidableEq

/-- The rectangle of part `j` of slot `s` that the addition reads and writes. -/
abbrev addRect (s : Fin 3) (j : Fin 4) : Rect S3x256x1024 :=
  Rect.unit (s := S3x256x1024) ![s.val, 64 * j.val, 0] S1x64x1024.size (cm_inb s j)

/-- What the addition stores: the elementwise sum of the two blocks it loads. -/
def addPay (a b : Vec F S1x64x1024 .f32) : FVec F S1x64x1024 .f32 :=
  shapeCast S1x64x1024 (addf (shapeCast S64x1024 a shapeCasts_S1x64x1024_S64x1024) (shapeCast S64x1024 b shapeCasts_S1x64x1024_S64x1024)) shapeCasts_S64x1024_S1x64x1024

/-- The effects of a command on device `c`. -/
def code (c : Dev nD) : Cmd → Prog (TpuEff nD τ sig (Elt F) Λ₀ .tc) PUnit
  | .sig k => semSignalWord (sigDev c k) barSem 1#32
  | .bar => semWaitWord barSem 5#32
  | .go t => Prog.lift (.enqueueDma (mr c t.src) (.remote (Dev.tc (t.dev c)) (mr c t.dst) (.dma t.ss)) (.dma t.rs) (mr_words c _) (mr_words c _) (t.typed c))
  | .cpy l => Prog.lift (.enqueueDma (mr c l.src) (.here (mr c l.dst)) (.dma l.sem) (mr_words c _) (mr_words c _) (l.typed c))
  | .ws t => Prog.lift (.waitDma2 t.ss (mr c t.dst) (mr c t.src) (mr_words c _) (mr_words c _))
  | .wr t => Prog.lift (.waitDma2 t.rs (mr c t.named) (mr c t.dst) (mr_words c _) (mr_words c _))
  | .wl l => Prog.lift (.waitDma2 l.sem (mr c l.src) (mr c l.dst) (mr_words c _) (mr_words c _))
  | .add s j => do
      let a : Vec F S1x64x1024 .f32 ← Prog.lift (.load (Memref.whole cc0_scratch0) (addRect s j).toLoadRect (View.loadsAt_vmem h_S1x64x1024))
      let b : Vec F S1x64x1024 .f32 ← Prog.lift (.load (Memref.whole cc0_scratch1) (addRect s j).toLoadRect (View.loadsAt_vmem h_S1x64x1024))
      let _ : Vec F S1x64x1024 .f32 ← Prog.lift (.load (Memref.whole cc0_scratch0) (addRect s j).toLoadRect (View.loadsAt_vmem h_S1x64x1024))
      Prog.lift (.store (Memref.whole cc0_scratch0) (addRect s j) (addPay a b) Finset.univ (View.stores_vmem_bits_univ h_S1x64x1024 rfl) (.inl rfl))

/-- Run a list of commands on device `c`. -/
def run (c : Dev nD) : List Cmd → Prog (TpuEff nD τ sig (Elt F) Λ₀ .tc) PUnit
  | [] => .ret ⟨⟩
  | x :: xs => (code c x).bind fun _ => run c xs

/-- The numbers below 3 and below 4, in order. -/
abbrev r3 : List (Fin 3) := [0, 1, 2]
abbrev r4 : List (Fin 4) := [0, 1, 2, 3]

/-- The ring step or the gathering step that follows step `s` of the reduction, part `j`. -/
def nextZs (j : Fin 4) : Fin 3 → List Cmd := ![[.go (.zs 1 j)], [.go (.zs 2 j)], [.go (.za 0 j)]]
/-- The gathering step that follows step `s`, part `j`. -/
def nextZa (j : Fin 4) : Fin 3 → List Cmd := ![[.go (.za 1 j)], [.go (.za 2 j)], []]
/-- The two copies that send out piece `i` of the quarter. -/
def launch (i : Fin 4) : List Cmd := [.go (.y 0 i), .go (.x 0 i)]
/-- The copies that forward piece `i` after hop `t`. -/
def nextY (i : Fin 4) : Fin 3 → List Cmd :=
  ![[.go (.y 1 i), .go (.x 1 i)], [.go (.y 2 i), .go (.x 2 i)], [.go (.x 3 i)]]

/-- The kernel as a list of commands, after it has read its own device number. -/
def program : List Cmd :=
  [.sig 0, .sig 1, .sig 2, .sig 3, .sig 4, .bar]
  ++ r3.map (fun s => .cpy (.st s))
  ++ r4.map (fun j => .go (.zs 0 j))
  ++ r3.flatMap (fun s => .wl (.st s) :: r4.flatMap fun j => [.ws (.zs s j), .wr (.zs s j), .add s j] ++ nextZs j s)
  ++ [.cpy .cp, .wl .cp] ++ launch 0
  ++ r3.flatMap (fun s => (r4.flatMap fun j => [.ws (.za s j), .wr (.za s j)] ++ nextZa j s) ++ launch s.succ)
  ++ [.cpy (.o 0)]
  ++ r3.flatMap (fun t => (r4.flatMap fun i => .wr (.y t i) :: nextY i t) ++ [.cpy (.o t.succ)])
  ++ r4.flatMap (fun b => r4.map (fun i => .wr (.x b i)) ++ [.cpy (.xo b)])
  ++ r3.flatMap (fun t => r4.flatMap fun i => [.ws (.y t i), .ws (.x t.castSucc i)])
  ++ r4.map (fun i => .ws (.x 3 i))
  ++ r4.map (fun k => .wl (.o k))
  ++ r4.map (fun b => .wl (.xo b))

set_option maxRecDepth 100000 in
/-- The printed kernel reads its device number and then runs the list. -/
theorem body_eq_run (t : Fin cfg0.N) :
    Gen.bodyAt0 (F := F) t = .op .deviceId fun c => run c program := by
  chain_rfl

end Cert.KernelIdeal.Run
-- ==== Proof.Geom.lean ====
/-
  Where the kernel's blocks lie and whom its copies address, in closed form.

  Every buffer is read as a list of rows of 1024 numbers (`frow`, `fcol`), and every block is a run of whole
  groups of 64 rows, given by its first group (`lo`) and its height.
-/
module

public import proofs.«01_k».proof.Proof.Prog
public import Idealize.ShloMosaic.Lib.ValueLayout
public import Idealize.ShloMosaic.Lib.Pipeline.Launch
public import Idealize.ShloMosaic.Lib.Pipeline.Kit
public import Idealize.ShloMosaic.Lib.Tactic

@[expose] public section

noncomputable section

namespace Cert.KernelIdeal.Run

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.ValueIdx
open Cert.KernelIdeal Cert.KernelIdeal.Facts₀ Cert.KernelIdeal.Facts

variable {F : FTy → Type} [FloatOps F]

/-! ## The mesh -/

/-- The coordinates of device `c` on the 2 × 4 × 4 mesh. -/
def cx (c : Dev nD) : ℕ := c.val / 16
def cy (c : Dev nD) : ℕ := c.val / 4 % 4
def cz (c : Dev nD) : ℕ := c.val % 4

/-- The device at coordinates `(x, y, z)`, each taken cyclically. -/
def dev (x y z : ℕ) : Dev nD := ⟨16 * (x % 2) + 4 * (y % 4) + z % 4, by show _ < 32; omega⟩

/-- The next and the previous device along z, the next and the previous along y, and the one across x. -/
def nz (c : Dev nD) : Dev nD := dev (cx c) (cy c) (cz c + 1)
def pz (c : Dev nD) : Dev nD := dev (cx c) (cy c) (cz c + 3)
def ny (c : Dev nD) : Dev nD := dev (cx c) (cy c + 1) (cz c)
def py (c : Dev nD) : Dev nD := dev (cx c) (cy c + 3) (cz c)
def px (c : Dev nD) : Dev nD := dev (cx c + 1) (cy c) (cz c)

/-- The device that signal `k` of the starting barrier addresses. -/
def sigTo (c : Dev nD) (k : Fin 5) : Dev nD := ![nz c, pz c, ny c, py c, px c] k

/-- The device that a remote copy addresses. -/
def Tr.to (c : Dev nD) : Tr → Dev nD
  | .zs _ _ | .za _ _ => nz c
  | .y _ _ => ny c
  | .x _ _ => px c

/-- The device from which the copy `t` that arrives at `c` was sent. -/
def Tr.frm (c : Dev nD) : Tr → Dev nD
  | .zs _ _ | .za _ _ => pz c
  | .y _ _ => py c
  | .x _ _ => px c

set_option maxRecDepth 100000 in
theorem sigDev_eq : ∀ (k : Fin 5) (c : Dev nD), sigDev c k = sigTo c k := by decide +kernel

set_option maxRecDepth 100000 in
theorem dev_zs : ∀ (s : Fin 3) (j : Fin 4) (c : Dev nD), (Tr.zs s j).dev c = nz c := by decide +kernel
set_option maxRecDepth 100000 in
theorem dev_za : ∀ (s : Fin 3) (j : Fin 4) (c : Dev nD), (Tr.za s j).dev c = nz c := by decide +kernel
set_option maxRecDepth 100000 in
theorem dev_y : ∀ (s : Fin 3) (j : Fin 4) (c : Dev nD), (Tr.y s j).dev c = ny c := by decide +kernel
set_option maxRecDepth 100000 in
theorem dev_x : ∀ (s : Fin 4) (j : Fin 4) (c : Dev nD), (Tr.x s j).dev c = px c := by decide +kernel

/-- The device numbers the kernel computes for its remote copies are the neighbours'. -/
theorem Tr.dev_eq (c : Dev nD) (t : Tr) : t.dev c = t.to c := by
  rcases t with ⟨s, j⟩ | ⟨s, j⟩ | ⟨s, j⟩ | ⟨s, j⟩
  · exact dev_zs s j c
  · exact dev_za s j c
  · exact dev_y s j c
  · exact dev_x s j c

theorem pz_nz : ∀ c : Dev nD, pz (nz c) = c := by decide +kernel
theorem nz_pz : ∀ c : Dev nD, nz (pz c) = c := by decide +kernel
theorem py_ny : ∀ c : Dev nD, py (ny c) = c := by decide +kernel
theorem ny_py : ∀ c : Dev nD, ny (py c) = c := by decide +kernel
theorem px_px : ∀ c : Dev nD, px (px c) = c := by decide +kernel

theorem Tr.frm_to (t : Tr) (c : Dev nD) : t.frm (t.to c) = c := by
  cases t
  · exact pz_nz c
  · exact pz_nz c
  · exact py_ny c
  · exact px_px c

theorem Tr.to_frm (t : Tr) (c : Dev nD) : t.to (t.frm c) = c := by
  cases t
  · exact nz_pz c
  · exact nz_pz c
  · exact ny_py c
  · exact px_px c

/-! ## Rows -/

/-- The buffer a name stands for. -/
abbrev Bf.ref : Bf → Ref sig .tc
  | .arg => main_arg0 | .out => main_v1 | .comm => cc0_scratch0 | .stage => cc0_scratch1
  | .qb => cc0_scratch2 | .yb => cc0_scratch3 | .xb => cc0_scratch4

/-- The buffer on device `d`. -/
abbrev Bf.at (d : Dev nD) (B : Bf) : Loc nD τ sig := (d : Thread nD τ).loc B.ref

/-- The row of an element, counting the rows of the slots one after another. -/
def frow (d : Dev nD) : (B : Bf) → Idx (B.at d) → ℕ
  | .arg => fun (i : S8192x1024.Idx) => (i 0).val
  | .out => fun (i : S8192x1024.Idx) => (i 0).val
  | .comm => fun (i : S3x256x1024.Idx) => 256 * (i 0).val + (i 1).val
  | .stage => fun (i : S3x256x1024.Idx) => 256 * (i 0).val + (i 1).val
  | .qb => fun (i : S1024x1024.Idx) => (i 0).val
  | .yb => fun (i : S3x1024x1024.Idx) => 1024 * (i 0).val + (i 1).val
  | .xb => fun (i : S4x1024x1024.Idx) => 1024 * (i 0).val + (i 1).val

/-- The column of an element. -/
def fcol (d : Dev nD) : (B : Bf) → Idx (B.at d) → ℕ
  | .arg => fun (i : S8192x1024.Idx) => (i 1).val
  | .out => fun (i : S8192x1024.Idx) => (i 1).val
  | .comm => fun (i : S3x256x1024.Idx) => (i 2).val
  | .stage => fun (i : S3x256x1024.Idx) => (i 2).val
  | .qb => fun (i : S1024x1024.Idx) => (i 1).val
  | .yb => fun (i : S3x1024x1024.Idx) => (i 2).val
  | .xb => fun (i : S4x1024x1024.Idx) => (i 2).val

/-- The number of groups of 64 rows in a buffer. -/
def Bf.groups : Bf → ℕ
  | .arg | .out => 128 | .comm | .stage => 12 | .qb => 16 | .yb => 48 | .xb => 64

theorem group2 {n m : ℕ} (hn : n = 64 * m) (i : (⟨2, ![n, 1024]⟩ : Shape).Idx) : (i 0).val / 64 < m := by
  have h : (i 0).val < n := (i 0).isLt
  omega

theorem group3 {n R k : ℕ} (hR : R = 64 * k) (i : (⟨3, ![n, R, 1024]⟩ : Shape).Idx) :
    (R * (i 0).val + (i 1).val) / 64 < n * k := by
  have h0 : (i 0).val < n := (i 0).isLt
  have h1 : (i 1).val < R := (i 1).isLt
  rw [Nat.div_lt_iff_lt_mul (by omega)]
  subst hR
  calc 64 * k * (i 0).val + (i 1).val < 64 * k * (i 0).val + 64 * k := by omega
    _ = 64 * k * ((i 0).val + 1) := by rw [Nat.mul_add, Nat.mul_one]
    _ ≤ 64 * k * n := Nat.mul_le_mul_left _ h0
    _ = n * k * 64 := by rw [Nat.mul_comm n k, Nat.mul_comm (k * n) 64, Nat.mul_assoc]

theorem frow_lt (d : Dev nD) (B : Bf) (i : Idx (B.at d)) : frow d B i / 64 < B.groups := by
  cases B
  · exact group2 (n := 8192) (m := 128) rfl i
  · exact group2 (n := 8192) (m := 128) rfl i
  · exact group3 (n := 3) (R := 256) (k := 4) rfl i
  · exact group3 (n := 3) (R := 256) (k := 4) rfl i
  · exact group2 (n := 1024) (m := 16) rfl i
  · exact group3 (n := 3) (R := 1024) (k := 16) rfl i
  · exact group3 (n := 4) (R := 1024) (k := 16) rfl i

/-- The contents of a buffer given by a function of row and column. -/
def fill (d : Dev nD) : (B : Bf) → (ℕ → ℕ → F .f32) → Buf (Elt F) (B.at d)
  | .arg, g => fun (i : S8192x1024.Idx) => g (frow d .arg i) (fcol d .arg i)
  | .out, g => fun (i : S8192x1024.Idx) => g (frow d .out i) (fcol d .out i)
  | .comm, g => fun (i : S3x256x1024.Idx) => g (frow d .comm i) (fcol d .comm i)
  | .stage, g => fun (i : S3x256x1024.Idx) => g (frow d .stage i) (fcol d .stage i)
  | .qb, g => fun (i : S1024x1024.Idx) => g (frow d .qb i) (fcol d .qb i)
  | .yb, g => fun (i : S3x1024x1024.Idx) => g (frow d .yb i) (fcol d .yb i)
  | .xb, g => fun (i : S4x1024x1024.Idx) => g (frow d .xb i) (fcol d .xb i)

/-- The elements of a buffer whose group of rows satisfies `S`. -/
def rowsOf (d : Dev nD) (B : Bf) (S : ℕ → Bool) : Finset (Idx (B.at d)) :=
  Finset.univ.filter fun i => S (frow d B i / 64) = true

/-! ## Blocks -/

/-- The first group of rows of a block, at the offsets device `c` computes. -/
def lo (c : Dev nD) : {h : Ht} → Blk h → ℕ
  | _, .xq j => 64 * cx c + 16 * cy c + 4 * cz c + j.val
  | _, .xs s => 64 * cx c + 16 * cy c + 4 * ((cz c + 3 - s.val) % 4)
  | _, .cm s j => 4 * s.val + j.val
  | _, .cm2 => 8
  | _, .sg s => 4 * s.val
  | _, .qa s j => 4 * ((cz c + 5 - s.val) % 4) + j.val
  | _, .qm => 4 * ((cz c + 1) % 4)
  | _, .q i => 4 * ((cz c + 5 - i.val) % 4)
  | _, .qw => 0
  | _, .y t i => 16 * t.val + 4 * ((cz c + 5 - i.val) % 4)
  | _, .yw t => 16 * t.val
  | _, .x b i => 16 * b.val + 4 * ((cz c + 5 - i.val) % 4)
  | _, .xw b => 16 * b.val
  | _, .o0 => 64 * cx c + 16 * cy c
  | _, .oy t => 64 * cx c + 16 * ((cy c + 3 - t.val) % 4)
  | _, .ox b => 64 * (1 - cx c) + 16 * ((cy c + 4 - b.val) % 4)

/-- The groups of rows of a block. -/
def grp (c : Dev nD) {h : Ht} (b : Blk h) (n : ℕ) : Bool := decide (lo c b ≤ n ∧ n < lo c b + h.u)

/-- A two-dimensional offset is row `64 n`, column 0. -/
abbrev At2 (off : Fin 2 → ℕ) (n : ℕ) : Prop := off 0 = 64 * n ∧ off 1 = 0
/-- A three-dimensional offset is flat row `64 n`, column 0, in slots of `R` rows. -/
abbrev At3 (R : ℕ) (off : Fin 3 → ℕ) (n : ℕ) : Prop := R * off 0 + off 1 = 64 * n ∧ off 2 = 0

set_option maxRecDepth 100000 in
theorem at_xs : ∀ (c : Dev nD) (s : Fin 3), At2 (k0_off1 c (BitVec.ofNat 32 s.val)) (lo c (.xs s)) := by decide +kernel
set_option maxRecDepth 100000 in
theorem at_xq : ∀ (c : Dev nD) (j : Fin 4), At2 (k0_off2 c (BitVec.ofNat 32 (64 * j.val))) (lo c (.xq j)) := by decide +kernel
set_option maxRecDepth 100000 in
theorem at_qa : ∀ (c : Dev nD) (s : Fin 3) (j : Fin 4), At2 (k0_off3 c (BitVec.ofNat 32 s.val) (BitVec.ofNat 32 (64 * j.val))) (lo c (.qa s j)) := by decide +kernel
set_option maxRecDepth 100000 in
theorem at_qm : ∀ (c : Dev nD), At2 (k0_off4 c) (lo c .qm) := by decide +kernel
set_option maxRecDepth 100000 in
theorem at_q : ∀ (c : Dev nD) (i : Fin 4), At2 (k0_off6 c (BitVec.ofNat 32 i.val)) (lo c (.q i)) := by decide +kernel
set_option maxRecDepth 100000 in
theorem at_o0 : ∀ (c : Dev nD), At2 (k0_off8 c) (lo c .o0) := by decide +kernel
set_option maxRecDepth 100000 in
theorem at_oy : ∀ (c : Dev nD) (t : Fin 3), At2 (k0_off11 c (BitVec.ofNat 32 t.val)) (lo c (.oy t)) := by decide +kernel
set_option maxRecDepth 100000 in
theorem at_ox : ∀ (c : Dev nD) (b : Fin 4), At2 (k0_off15 c (BitVec.ofNat 32 b.val)) (lo c (.ox b)) := by decide +kernel
set_option maxRecDepth 100000 in
theorem at_y : ∀ (c : Dev nD) (t : Fin 3) (i : Fin 4), At3 1024 (offY c i t) (lo c (.y t i)) := by decide +kernel
set_option maxRecDepth 100000 in
theorem at_x : ∀ (c : Dev nD) (b : Fin 4) (i : Fin 4), At3 1024 (offX c i b) (lo c (.x b i)) := by decide +kernel
theorem at_cm : ∀ (c : Dev nD) (s : Fin 3) (j : Fin 4), At3 256 ![s.val, 64 * j.val, 0] (lo c (.cm s j)) := by decide +kernel
theorem at_cm2 : ∀ (c : Dev nD), At3 256 ![2, 0, 0] (lo c .cm2) := by decide +kernel
theorem at_sg : ∀ (c : Dev nD) (s : Fin 3), At3 256 ![s.val, 0, 0] (lo c (.sg s)) := by decide +kernel
theorem at_yw : ∀ (c : Dev nD) (t : Fin 3), At3 1024 ![t.val, 0, 0] (lo c (.yw t)) := by decide +kernel
theorem at_xw : ∀ (c : Dev nD) (b : Fin 4), At3 1024 ![b.val, 0, 0] (lo c (.xw b)) := by decide +kernel

end Cert.KernelIdeal.Run
-- ==== Proof.Blocks.lean ====
/-
  What a block's memory reference reads and which elements it covers.
-/
module

public import proofs.«01_k».proof.Proof.Geom

@[expose] public section

noncomputable section

namespace Cert.KernelIdeal.Run

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.ValueIdx
open Cert.KernelIdeal Cert.KernelIdeal.Facts₀ Cert.KernelIdeal.Facts

variable {F : FTy → Type} [FloatOps F]

/-! ## A block's elements and what is read through it -/

/-- The row and the column of an index of a block. -/
abbrev hrow : {h : Ht} → h.shape.Idx → ℕ
  | .s => fun (x : S64x1024.Idx) => (x 0).val
  | .m => fun (x : S256x1024.Idx) => (x 0).val
  | .l => fun (x : S1024x1024.Idx) => (x 0).val
abbrev hcol : {h : Ht} → h.shape.Idx → ℕ
  | .s => fun (x : S64x1024.Idx) => (x 1).val
  | .m => fun (x : S256x1024.Idx) => (x 1).val
  | .l => fun (x : S1024x1024.Idx) => (x 1).val

theorem mem2 {n : ℕ} {off : Fin 2 → ℕ} {m : ℕ} (u : ℕ) {inb} (h : At2 off m) (i : (⟨2, ![n, 1024]⟩ : Shape).Idx) :
    decide (m ≤ (i 0).val / 64 ∧ (i 0).val / 64 < m + u) = true
      ↔ i ∈ (Rect.unit (s := ⟨2, ![n, 1024]⟩) off ![64 * u, 1024] inb).set := by
  have h1 : (i 1).val < 1024 := (i 1).isLt
  obtain ⟨e0, e1⟩ := h
  rw [Rect.mem_set_unit, decide_eq_true_iff, Fin.forall_fin_two]
  show _ ↔ (off 0 ≤ (i 0).val ∧ (i 0).val < off 0 + 64 * u) ∧ (off 1 ≤ (i 1).val ∧ (i 1).val < off 1 + 1024)
  rw [e0, e1]
  omega

theorem mem3 {n R k : ℕ} (hR : R = 64 * k) {off : Fin 3 → ℕ} {m : ℕ} (u : ℕ)
    {inb : ∀ a, off a + (![1, 64 * u, 1024] : Fin 3 → ℕ) a ≤ (⟨3, ![n, R, 1024]⟩ : Shape).size a}
    (h : At3 R off m) (i : (⟨3, ![n, R, 1024]⟩ : Shape).Idx) :
    decide (m ≤ (R * (i 0).val + (i 1).val) / 64 ∧ (R * (i 0).val + (i 1).val) / 64 < m + u) = true
      ↔ i ∈ (Rect.unit (s := ⟨3, ![n, R, 1024]⟩) off ![1, 64 * u, 1024] inb).set := by
  have h1 : (i 1).val < R := (i 1).isLt
  have h2 : (i 2).val < 1024 := (i 2).isLt
  have hi : off 1 + 64 * u ≤ R := inb 1
  obtain ⟨e0, e1⟩ := h
  rw [Rect.mem_set_unit, decide_eq_true_iff, Fin.forall_fin_succ, Fin.forall_fin_two]
  show _ ↔ (off 0 ≤ (i 0).val ∧ (i 0).val < off 0 + 1) ∧ (off 1 ≤ (i 1).val ∧ (i 1).val < off 1 + 64 * u)
    ∧ (off 2 ≤ (i 2).val ∧ (i 2).val < off 2 + 1024)
  rw [e1]
  generalize off 0 = a at *
  generalize off 1 = b at *
  generalize (i 0).val = x at *
  generalize (i 1).val = y at *
  constructor
  · rintro ⟨l1, l2⟩
    have k1 : 64 * m ≤ R * x + y := by omega
    have k2 : R * x + y < 64 * m + 64 * u := by omega
    have hx : x = a := by
      rcases lt_trichotomy x a with hl | he | hl
      · have := Nat.mul_le_mul_left R (show x + 1 ≤ a from hl)
        rw [Nat.mul_add] at this; omega
      · exact he
      · have := Nat.mul_le_mul_left R (show a + 1 ≤ x from hl)
        rw [Nat.mul_add] at this; omega
    subst hx
    omega
  · rintro ⟨⟨l1, l2⟩, ⟨l3, l4⟩, -⟩
    have hx : x = a := by omega
    subst hx
    omega

/-- Row and column of an element that a two-dimensional rectangle places. -/
theorem rect2 {n : ℕ} {off : Fin 2 → ℕ} {m : ℕ} {u : ℕ}
    {inb : ∀ a, off a + (![64 * u, 1024] : Fin 2 → ℕ) a ≤ (⟨2, ![n, 1024]⟩ : Shape).size a} (h : At2 off m)
    (x : (⟨2, ![64 * u, 1024]⟩ : Shape).Idx) :
    (((Rect.unit (s := ⟨2, ![n, 1024]⟩) off ![64 * u, 1024] inb).emb x) 0).val = 64 * m + (x 0).val
      ∧ (((Rect.unit (s := ⟨2, ![n, 1024]⟩) off ![64 * u, 1024] inb).emb x) 1).val = (x 1).val := by
  obtain ⟨e0, e1⟩ := h
  constructor
  · show off 0 + 1 * (x 0).val = _
    rw [e0, Nat.one_mul]
  · show off 1 + 1 * (x 1).val = _
    rw [e1, Nat.one_mul, Nat.zero_add]

/-- Row and column of an element that a squeezed rectangle of one slot places. -/
theorem rect3 {n R : ℕ} {off : Fin 3 → ℕ} {m : ℕ} {u : ℕ}
    {inb : ∀ a, off a + (![1, 64 * u, 1024] : Fin 3 → ℕ) a ≤ (⟨3, ![n, R, 1024]⟩ : Shape).size a} (h : At3 R off m)
    (e : (⟨2, ![64 * u, 1024]⟩ : Shape).numel = (⟨3, ![1, 64 * u, 1024]⟩ : Shape).numel)
    (x : (⟨2, ![64 * u, 1024]⟩ : Shape).Idx) :
    R * (((Rect.unit (s := ⟨3, ![n, R, 1024]⟩) off ![1, 64 * u, 1024] inb).emb (Shape.reshapeEquiv e x)) 0).val
        + (((Rect.unit (s := ⟨3, ![n, R, 1024]⟩) off ![1, 64 * u, 1024] inb).emb (Shape.reshapeEquiv e x)) 1).val
        = 64 * m + (x 0).val
      ∧ (((Rect.unit (s := ⟨3, ![n, R, 1024]⟩) off ![1, 64 * u, 1024] inb).emb (Shape.reshapeEquiv e x)) 2).val
        = (x 1).val := by
  obtain ⟨p, q, rfl⟩ : ∃ (p : Fin (64 * u)) (q : Fin 1024), x = ix2 p q := ⟨x 0, x 1, eq_ix2 x⟩
  rw [reshapeEquiv_ix2_1ab e p q]
  obtain ⟨e0, e1⟩ := h
  constructor
  · show R * (off 0 + 1 * 0) + (off 1 + 1 * p.val) = 64 * m + p.val
    rw [← e0, Nat.mul_zero, Nat.add_zero, Nat.one_mul, Nat.add_assoc]
  · show off 2 + 1 * q.val = q.val
    rw [e1, Nat.one_mul, Nat.zero_add]

/-! ### The heap's assertions -/

/-- The resource algebra of the launch's own bookkeeping beside the rounds' (duties numbered below 5). -/
abbrev UU : Type := UR sig nD τ × Rounds.URounds (GSem nD τ sig) (Fin 5)

local notation "𝕄" => MT nD τ sig Unit (Elt F) ℕ UU ℕ

/-- The elements of a buffer given by a Boolean condition are a view's elements where the condition says so. -/
theorem filter_eq {T : Type} [Fintype T] [DecidableEq T] {p : T → Bool} {S : Finset T} (h : ∀ i, p i = true ↔ i ∈ S) :
    (Finset.univ.filter fun i => p i = true) = S := by
  ext i
  rw [Finset.mem_filter]
  exact (and_iff_right (Finset.mem_univ _)).trans (h i)

/-- Holding the rows of a block of a buffer is holding the elements of the block's memory reference; and where the
    buffer is filled by a function of row and column, the reference reads that function at the block's rows. -/
theorem blk_iso (d c : Dev nD) {h : Ht} (b : Blk h) :
    ∃ e : Buf (Elt F) (b.buf.at d) → Buf (Elt F) ((mr c b).view.loc (d : Thread nD τ)),
      (∀ (q : PosShare TreeShare) (f : Buf (Elt F) (b.buf.at d)), (b.buf.at d ↦[rowsOf d b.buf (grp c b)]{q} f : sProp 𝕄)
        = ((mr c b).view.loc (d : Thread nD τ) ↦[(mr c b).view.set]{q} e f))
      ∧ ∀ (g : ℕ → ℕ → F .f32) x, (mr c b).view.read (Elt F) (e (fill d b.buf g)) x = g (64 * lo c b + hrow x) (hcol x) := by
  -- a view that covers the block's rows and whose elements lie at the block's rows and columns
  have key : ∀ S : Finset (Idx (b.buf.at d)), rowsOf d b.buf (grp c b) = S → ∀ (q : PosShare TreeShare)
      (f : Buf (Elt F) (b.buf.at d)), (b.buf.at d ↦[rowsOf d b.buf (grp c b)]{q} f : sProp 𝕄) = (b.buf.at d ↦[S]{q} f) :=
    fun S h q f => by rw [h]
  cases b with
  | xq j => exact ⟨id, key _ ((filter_eq fun r => mem2 (n := 8192) 1 (at_xq c j) r).trans (View.set_slice_whole _ _).symm),
      fun g x => congrArg₂ g (rect2 (n := 8192) (u := 1) (at_xq c j) x).1 (rect2 (n := 8192) (u := 1) (at_xq c j) x).2⟩
  | xs s => exact ⟨id, key _ ((filter_eq fun r => mem2 (n := 8192) 4 (at_xs c s) r).trans (View.set_slice_whole _ _).symm),
      fun g x => congrArg₂ g (rect2 (n := 8192) (u := 4) (at_xs c s) x).1 (rect2 (n := 8192) (u := 4) (at_xs c s) x).2⟩
  | qa s j => exact ⟨id, key _ ((filter_eq fun r => mem2 (n := 1024) 1 (at_qa c s j) r).trans (View.set_slice_whole _ _).symm),
      fun g x => congrArg₂ g (rect2 (n := 1024) (u := 1) (at_qa c s j) x).1 (rect2 (n := 1024) (u := 1) (at_qa c s j) x).2⟩
  | qm => exact ⟨id, key _ ((filter_eq fun r => mem2 (n := 1024) 4 (at_qm c) r).trans (View.set_slice_whole _ _).symm),
      fun g x => congrArg₂ g (rect2 (n := 1024) (u := 4) (at_qm c) x).1 (rect2 (n := 1024) (u := 4) (at_qm c) x).2⟩
  | q i => exact ⟨id, key _ ((filter_eq fun r => mem2 (n := 1024) 4 (at_q c i) r).trans (View.set_slice_whole _ _).symm),
      fun g x => congrArg₂ g (rect2 (n := 1024) (u := 4) (at_q c i) x).1 (rect2 (n := 1024) (u := 4) (at_q c i) x).2⟩
  | o0 => exact ⟨id, key _ ((filter_eq fun r => mem2 (n := 8192) 16 (at_o0 c) r).trans (View.set_slice_whole _ _).symm),
      fun g x => congrArg₂ g (rect2 (n := 8192) (u := 16) (at_o0 c) x).1 (rect2 (n := 8192) (u := 16) (at_o0 c) x).2⟩
  | oy t => exact ⟨id, key _ ((filter_eq fun r => mem2 (n := 8192) 16 (at_oy c t) r).trans (View.set_slice_whole _ _).symm),
      fun g x => congrArg₂ g (rect2 (n := 8192) (u := 16) (at_oy c t) x).1 (rect2 (n := 8192) (u := 16) (at_oy c t) x).2⟩
  | ox b => exact ⟨id, key _ ((filter_eq fun r => mem2 (n := 8192) 16 (at_ox c b) r).trans (View.set_slice_whole _ _).symm),
      fun g x => congrArg₂ g (rect2 (n := 8192) (u := 16) (at_ox c b) x).1 (rect2 (n := 8192) (u := 16) (at_ox c b) x).2⟩
  | cm s j => exact ⟨id, key _ ((filter_eq fun r => mem3 (n := 3) (k := 4) rfl 1 (at_cm c s j) r).trans
        ((View.set_reshape _ _).trans (View.set_slice_whole _ _)).symm),
      fun g x => congrArg₂ g (rect3 (n := 3) (R := 256) (u := 1) (at_cm c s j) _ x).1 (rect3 (n := 3) (R := 256) (u := 1) (at_cm c s j) _ x).2⟩
  | cm2 => exact ⟨id, key _ ((filter_eq fun r => mem3 (n := 3) (k := 4) rfl 4 (at_cm2 c) r).trans
        ((View.set_reshape _ _).trans (View.set_slice_whole _ _)).symm),
      fun g x => congrArg₂ g (rect3 (n := 3) (R := 256) (u := 4) (at_cm2 c) _ x).1 (rect3 (n := 3) (R := 256) (u := 4) (at_cm2 c) _ x).2⟩
  | sg s => exact ⟨id, key _ ((filter_eq fun r => mem3 (n := 3) (k := 4) rfl 4 (at_sg c s) r).trans
        ((View.set_reshape _ _).trans (View.set_slice_whole _ _)).symm),
      fun g x => congrArg₂ g (rect3 (n := 3) (R := 256) (u := 4) (at_sg c s) _ x).1 (rect3 (n := 3) (R := 256) (u := 4) (at_sg c s) _ x).2⟩
  | y t i => exact ⟨id, key _ ((filter_eq fun r => mem3 (n := 3) (k := 16) rfl 4 (at_y c t i) r).trans
        ((View.set_reshape _ _).trans (View.set_slice_whole _ _)).symm),
      fun g x => congrArg₂ g (rect3 (n := 3) (R := 1024) (u := 4) (at_y c t i) _ x).1 (rect3 (n := 3) (R := 1024) (u := 4) (at_y c t i) _ x).2⟩
  | x b i => exact ⟨id, key _ ((filter_eq fun r => mem3 (n := 4) (k := 16) rfl 4 (at_x c b i) r).trans
        ((View.set_reshape _ _).trans (View.set_slice_whole _ _)).symm),
      fun g x => congrArg₂ g (rect3 (n := 4) (R := 1024) (u := 4) (at_x c b i) _ x).1 (rect3 (n := 4) (R := 1024) (u := 4) (at_x c b i) _ x).2⟩
  | yw t => exact ⟨id, key _ ((filter_eq fun r => mem3 (n := 3) (k := 16) rfl 16 (at_yw c t) r).trans
        ((View.set_reshape _ _).trans (View.set_slice_whole _ _)).symm),
      fun g x => congrArg₂ g (rect3 (n := 3) (R := 1024) (u := 16) (at_yw c t) _ x).1 (rect3 (n := 3) (R := 1024) (u := 16) (at_yw c t) _ x).2⟩
  | xw b => exact ⟨id, key _ ((filter_eq fun r => mem3 (n := 4) (k := 16) rfl 16 (at_xw c b) r).trans
        ((View.set_reshape _ _).trans (View.set_slice_whole _ _)).symm),
      fun g x => congrArg₂ g (rect3 (n := 4) (R := 1024) (u := 16) (at_xw c b) _ x).1 (rect3 (n := 4) (R := 1024) (u := 16) (at_xw c b) _ x).2⟩
  | qw =>
    have hq : ∀ r, grp c .qw (frow d .qb r / 64) = true := fun r =>
      decide_eq_true (p := 0 ≤ _ ∧ _ < 0 + Bf.groups .qb)
        ⟨Nat.zero_le _, by rw [Nat.zero_add]; exact frow_lt d .qb r⟩
    have hu : rowsOf d .qb (grp c .qw) = Finset.univ := Finset.filter_true_of_mem fun r _ => hq r
    refine ⟨id, key _ (hu.trans (View.set_whole cc0_scratch2).symm), ?_⟩
    intro g x
    rw [show lo c (.qw) = 0 from rfl, Nat.mul_zero, Nat.zero_add]
    rfl

end Cert.KernelIdeal.Run
-- ==== Proof.Regions.lean ====
/-
  The regions into which the kernel's buffers are cut, and what each buffer holds, group of 64 rows by group.
-/
module

public import proofs.«01_k».proof.Proof.Blocks

@[expose] public section

noncomputable section

namespace Cert.KernelIdeal.Run

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Cert.KernelIdeal Cert.KernelIdeal.Facts₀ Cert.KernelIdeal.Facts

variable {F : FTy → Type} [FloatOps F]

/-! ## Regions -/

/-- The regions: part `j` of slot `s` of the two ring buffers (`cm`, `st`); part `j` of piece `i` of the quarter buffer
    (`q`), the pieces counted in the order they become ready; piece `i` of a slot of the y and the x exchange buffers;
    the eight quarters of the result (`o`, `xo`); of the argument, part `j` of the device's own block of its quarter
    (`xq`), the three other blocks of its quarter (`xs`) and everything else (`xr`). -/
inductive Rg
  | cm (s : Fin 3) (j : Fin 4)
  | st (s : Fin 3) (j : Fin 4)
  | q (i : Fin 4) (j : Fin 4)
  | y (t : Fin 3) (i : Fin 4)
  | x (b : Fin 4) (i : Fin 4)
  | o (k : Fin 4)
  | xo (b : Fin 4)
  | xq (j : Fin 4)
  | xs (s : Fin 3)
  | xr
  deriving DecidableEq

/-- The buffer of a region. -/
abbrev Rg.buf : Rg → Bf
  | .cm _ _ => .comm | .st _ _ => .stage | .q _ _ => .qb | .y _ _ => .yb | .x _ _ => .xb
  | .o _ | .xo _ => .out | .xq _ | .xs _ | .xr => .arg

/-- Whether group `n` lies in `u` groups from `a` on. -/
def within (a u n : ℕ) : Bool := Nat.ble a n && Nat.blt n (a + u)

/-- Whether group `n` of its buffer on device `c` lies in a region. -/
def Rg.mem (c : Dev nD) : Rg → ℕ → Bool
  | .cm s j, n | .st s j, n => within (4 * s.val + j.val) 1 n
  | .q i j, n => within (4 * ((cz c + 5 - i.val) % 4) + j.val) 1 n
  | .y t i, n => within (16 * t.val + 4 * ((cz c + 5 - i.val) % 4)) 4 n
  | .x b i, n => within (16 * b.val + 4 * ((cz c + 5 - i.val) % 4)) 4 n
  | .o k, n => within (64 * cx c + 16 * ((cy c + 4 - k.val) % 4)) 16 n
  | .xo b, n => within (64 * (1 - cx c) + 16 * ((cy c + 4 - b.val) % 4)) 16 n
  | .xq j, n => within (64 * cx c + 16 * cy c + 4 * cz c + j.val) 1 n
  | .xs s, n => within (64 * cx c + 16 * cy c + 4 * ((cz c + 3 - s.val) % 4)) 4 n
  | .xr, n => !within (64 * cx c + 16 * cy c) 16 n

/-- The regions of a block. -/
abbrev Blk.regs : {h : Ht} → Blk h → List Rg
  | _, .xq j => [.xq j]
  | _, .xs s => [.xs s]
  | _, .cm s j => [.cm s j]
  | _, .cm2 => r4.map (.cm 2)
  | _, .sg s => r4.map (.st s)
  | _, .qa s j => [.q s.castSucc j]
  | _, .qm => r4.map (.q 0)
  | _, .q i => r4.map (.q i)
  | _, .qw => r4.flatMap fun i => r4.map (.q i)
  | _, .y t i => [.y t i]
  | _, .yw t => r4.map (.y t)
  | _, .x b i => [.x b i]
  | _, .xw b => r4.map (.x b)
  | _, .o0 => [.o 0]
  | _, .oy t => [.o t.succ]
  | _, .ox b => [.xo b]

/-- The regions of the device it addresses that a remote copy fills, named as that device names them. -/
abbrev Tr.dregs : Tr → List Rg
  | .zs s j => [.cm s j] | .za s j => [.q s.succ j] | .y t i => [.y t i] | .x b i => [.x b i]

/-- A list of regions of one buffer cuts the groups satisfying `S` into disjoint parts. -/
def Cuts (c : Dev nD) (B : Bf) (S : ℕ → Bool) (l : List Rg) : Prop :=
  (∀ r ∈ l, r.buf = B) ∧ ∀ n < B.groups, l.countP (fun r => r.mem c n) = (S n).toNat

instance (c : Dev nD) (B : Bf) (S : ℕ → Bool) (l : List Rg) : Decidable (Cuts c B S l) := by unfold Cuts; infer_instance

set_option maxRecDepth 100000 in
theorem cuts_s : ∀ c : Dev nD, (∀ j, Cuts c .arg (grp c (.xq j)) (Blk.xq j).regs)
    ∧ (∀ s j, Cuts c .comm (grp c (.cm s j)) (Blk.cm s j).regs) ∧ (∀ s j, Cuts c .qb (grp c (.qa s j)) (Blk.qa s j).regs) := by
  decide +kernel
set_option maxRecDepth 100000 in
theorem cuts_m : ∀ c : Dev nD, (∀ s, Cuts c .arg (grp c (.xs s)) (Blk.xs s).regs) ∧ (∀ s, Cuts c .stage (grp c (.sg s)) (Blk.sg s).regs)
    ∧ Cuts c .comm (grp c .cm2) Blk.cm2.regs ∧ Cuts c .qb (grp c .qm) Blk.qm.regs
    ∧ (∀ i, Cuts c .qb (grp c (.q i)) (Blk.q i).regs) ∧ (∀ t i, Cuts c .yb (grp c (.y t i)) (Blk.y t i).regs)
    ∧ (∀ b i, Cuts c .xb (grp c (.x b i)) (Blk.x b i).regs) := by
  decide +kernel
set_option maxRecDepth 100000 in
theorem cuts_l : ∀ c : Dev nD, Cuts c .qb (grp c .qw) Blk.qw.regs ∧ (∀ t, Cuts c .yb (grp c (.yw t)) (Blk.yw t).regs)
    ∧ (∀ b, Cuts c .xb (grp c (.xw b)) (Blk.xw b).regs) ∧ Cuts c .out (grp c .o0) Blk.o0.regs
    ∧ (∀ t, Cuts c .out (grp c (.oy t)) (Blk.oy t).regs) ∧ (∀ b, Cuts c .out (grp c (.ox b)) (Blk.ox b).regs) := by
  decide +kernel

/-- A block is cut into its regions. -/
theorem cuts (c : Dev nD) {h : Ht} (b : Blk h) : Cuts c b.buf (grp c b) b.regs := by
  cases b with
  | xq j => exact (cuts_s c).1 j
  | cm s j => exact (cuts_s c).2.1 s j
  | qa s j => exact (cuts_s c).2.2 s j
  | xs s => exact (cuts_m c).1 s
  | sg s => exact (cuts_m c).2.1 s
  | cm2 => exact (cuts_m c).2.2.1
  | qm => exact (cuts_m c).2.2.2.1
  | q i => exact (cuts_m c).2.2.2.2.1 i
  | y t i => exact (cuts_m c).2.2.2.2.2.1 t i
  | x b i => exact (cuts_m c).2.2.2.2.2.2 b i
  | qw => exact (cuts_l c).1
  | yw t => exact (cuts_l c).2.1 t
  | xw b => exact (cuts_l c).2.2.1 b
  | o0 => exact (cuts_l c).2.2.2.1
  | oy t => exact (cuts_l c).2.2.2.2.1 t
  | ox b => exact (cuts_l c).2.2.2.2.2 b

set_option maxRecDepth 100000 in
theorem dcuts_z : ∀ (c : Dev nD) (s : Fin 3) (j : Fin 4), Cuts (nz c) .comm (grp c (.cm s j)) (Tr.zs s j).dregs
    ∧ Cuts (nz c) .qb (grp c (.qa s j)) (Tr.za s j).dregs := by decide +kernel
set_option maxRecDepth 100000 in
theorem dcuts_y : ∀ (c : Dev nD) (t : Fin 3) (i : Fin 4), Cuts (ny c) .yb (grp c (.y t i)) (Tr.y t i).dregs := by decide +kernel
set_option maxRecDepth 100000 in
theorem dcuts_x : ∀ (c : Dev nD) (b : Fin 4) (i : Fin 4), Cuts (px c) .xb (grp c (.x b i)) (Tr.x b i).dregs := by decide +kernel

/-- The block a remote copy fills is cut into the regions the addressed device names. -/
theorem dcuts (c : Dev nD) (t : Tr) : Cuts (t.to c) t.dst.buf (grp c t.dst) t.dregs := by
  rcases t with ⟨s, j⟩ | ⟨s, j⟩ | ⟨t, i⟩ | ⟨b, i⟩
  · exact (dcuts_z c s j).1
  · exact (dcuts_z c s j).2
  · exact dcuts_y c t i
  · exact dcuts_x c b i

/-! ## Contents -/

/-- What memory holds: anything; what was copied or launched there; for a part of the ring buffer, the same with the
    device's own block added. -/
inductive Ver
  | any
  | a
  | b
  deriving DecidableEq

/-- The group of the whole array to which group `n` of a buffer of device `c` belongs. -/
def gm (c : Dev nD) : Bf → ℕ → ℕ
  | .arg, n | .out, n => n
  | .comm, n | .stage, n => 64 * cx c + 16 * cy c + 4 * ((cz c + 3 - n / 4) % 4) + n % 4
  | .qb, n => 64 * cx c + 16 * cy c + n
  | .yb, n => 64 * cx c + 16 * ((cy c + 3 - n / 16) % 4) + n % 16
  | .xb, n => 64 * (1 - cx c) + 16 * ((cy c + 4 - n / 16) % 4) + n % 16

/-- The devices whose blocks are added up, in this order, when the first `n + 1` devices on the ring of group `G`
    have contributed: the ring begins at the group's own device. -/
def ringSum (G n : ℕ) : List (Dev nD) := (List.range (n + 1)).map fun k => dev (G / 64) (G / 16 % 4) (G / 4 % 4 + k)

/-- The devices whose blocks make up what group `n` of a buffer of device `c` holds. -/
def kinds (c : Dev nD) : Bf → Ver → ℕ → List (Dev nD)
  | .arg, _, _ | .stage, _, _ => [c]
  | .comm, .b, n => ringSum (gm c .comm n) (n / 4 + 1)
  | .comm, _, n => ringSum (gm c .comm n) (n / 4)
  | .out, _, n => ringSum (gm c .out n) 3
  | .qb, _, n => ringSum (gm c .qb n) 3
  | .yb, _, n => ringSum (gm c .yb n) 3
  | .xb, _, n => ringSum (gm c .xb n) 3

/-- The sum, from the left, of some devices' numbers at a row and a column. -/
def total (X : Dev nD → ℕ → ℕ → F .f32) (r k : ℕ) : List (Dev nD) → F .f32
  | [] => X 0 r k
  | d :: l => l.foldl (fun v e => FloatOps.addf v (X e r k)) (X d r k)

/-- What a buffer of device `c` holds at a row and a column. -/
def val (X : Dev nD → ℕ → ℕ → F .f32) (c : Dev nD) (B : Bf) (v : Ver) (r k : ℕ) : F .f32 :=
  total X (64 * gm c B (r / 64) + r % 64) k (kinds c B v (r / 64))

/-- The version of the contents a remote copy reads. -/
abbrev Tr.sver : Tr → Ver
  | .zs 0 _ => .a | .zs _ _ => .b | .za 0 _ => .b | _ => .a

/-- The version of the contents a local copy reads. -/
abbrev Lc.sver : Lc → Ver
  | .cp => .b | _ => .a

/-- Two blocks hold the same numbers, group by group. -/
def Same (c : Dev nD) (B : Bf) (v : Ver) (l : ℕ) (c' : Dev nD) (B' : Bf) (v' : Ver) (l' u : ℕ) : Prop :=
  ∀ k < u, gm c B (l + k) = gm c' B' (l' + k) ∧ kinds c B v (l + k) = kinds c' B' v' (l' + k)

instance (c : Dev nD) (B : Bf) (v : Ver) (l : ℕ) (c' : Dev nD) (B' : Bf) (v' : Ver) (l' u : ℕ) : Decidable (Same c B v l c' B' v' l' u) := by
  unfold Same; infer_instance

/-- What a remote copy reads is what its target is to hold. -/
abbrev Tr.Same (c : Dev nD) (t : Tr) : Prop :=
  Run.Same c t.src.buf t.sver (lo c t.src) (t.to c) t.dst.buf .a (lo c t.dst) t.ht.u

set_option maxRecDepth 100000 in
theorem same_zs : ∀ (c : Dev nD) (s : Fin 3) (j : Fin 4), (Tr.zs s j).Same c := by decide +kernel
set_option maxRecDepth 100000 in
theorem same_za : ∀ (c : Dev nD) (s : Fin 3) (j : Fin 4), (Tr.za s j).Same c := by decide +kernel
set_option maxRecDepth 100000 in
theorem same_y : ∀ (c : Dev nD) (t : Fin 3) (i : Fin 4), (Tr.y t i).Same c := by decide +kernel
set_option maxRecDepth 100000 in
theorem same_x : ∀ (c : Dev nD) (b : Fin 4) (i : Fin 4), (Tr.x b i).Same c := by decide +kernel

theorem Tr.same (c : Dev nD) (t : Tr) : t.Same c := by
  rcases t with ⟨s, j⟩ | ⟨s, j⟩ | ⟨t, i⟩ | ⟨b, i⟩
  · exact same_zs c s j
  · exact same_za c s j
  · exact same_y c t i
  · exact same_x c b i

/-- What a local copy reads is what its target is to hold. -/
abbrev Lc.Same (c : Dev nD) (l : Lc) : Prop :=
  Run.Same c l.src.buf l.sver (lo c l.src) c l.dst.buf .a (lo c l.dst) l.ht.u

set_option maxRecDepth 100000 in
theorem same_st : ∀ (c : Dev nD) (s : Fin 3), (Lc.st s).Same c := by decide +kernel
set_option maxRecDepth 100000 in
theorem same_cp : ∀ c : Dev nD, Lc.cp.Same c := by decide +kernel
set_option maxRecDepth 100000 in
theorem same_o : ∀ (c : Dev nD) (k : Fin 4), (Lc.o k).Same c := by decide +kernel
set_option maxRecDepth 100000 in
theorem same_xo : ∀ (c : Dev nD) (b : Fin 4), (Lc.xo b).Same c := by decide +kernel

theorem Lc.same (c : Dev nD) (l : Lc) : l.Same c := by
  rcases l with s | _ | k | b
  · exact same_st c s
  · exact same_cp c
  · exact same_o c k
  · exact same_xo c b

/-- Row `64 l + r` of a block lies in its group `r / 64`. -/
theorem div_row (l r : ℕ) : (64 * l + r) / 64 = l + r / 64 := by omega
theorem mod_row (l r : ℕ) : (64 * l + r) % 64 = r % 64 := by omega

theorem Same.val {c : Dev nD} {B : Bf} {v : Ver} {l : ℕ} {c' : Dev nD} {B' : Bf} {v' : Ver} {l' u : ℕ} (h : Run.Same c B v l c' B' v' l' u)
    (X : Dev nD → ℕ → ℕ → F .f32) {r : ℕ} (hr : r < 64 * u) (k : ℕ) :
    val X c B v (64 * l + r) k = val X c' B' v' (64 * l' + r) k := by
  obtain ⟨h1, h2⟩ := h (r / 64) (by omega)
  unfold Run.val
  rw [div_row, div_row, mod_row, mod_row, h1, h2]

set_option maxRecDepth 100000 in
/-- An addition appends the device's own block to those already summed, all three parts lying in the same rows. -/
theorem add_kinds : ∀ (c : Dev nD) (s : Fin 3) (j : Fin 4), kinds c .comm .b (4 * s.val + j.val) = kinds c .comm .a (4 * s.val + j.val) ++ [c]
    ∧ kinds c .comm .a (4 * s.val + j.val) ≠ [] := by decide +kernel

end Cert.KernelIdeal.Run
-- ==== Proof.Mem.lean ====
/-
  Memory held region by region, and blocks as what their regions hold together.
-/
module

public import proofs.«01_k».proof.Proof.Regions

@[expose] public section

noncomputable section

namespace Cert.KernelIdeal.Run

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Cert.KernelIdeal Cert.KernelIdeal.Facts₀ Cert.KernelIdeal.Facts

variable {F : FTy → Type} [FloatOps F]

local notation "𝕄" => MT nD τ sig Unit (Elt F) ℕ UU ℕ

/-! ## Lists of assertions -/

omit [FloatOps F] in
theorem sepA (P Q R : sProp 𝕄) : iprop((P ∗ Q) ∗ R) = iprop(P ∗ Q ∗ R) :=
  Entails.antisymm BI.sep_assoc BI.sep_assoc'
omit [FloatOps F] in
theorem sepC (P Q : sProp 𝕄) : iprop(P ∗ Q) = iprop(Q ∗ P) := Entails.antisymm BI.sep_comm BI.sep_comm
omit [FloatOps F] in
theorem empL (P : sProp 𝕄) : iprop(emp ∗ P) = P := Entails.antisymm BI.emp_sep_elim BI.emp_sep_intro

/-- All of a list's assertions at once. -/
def all {A : Type} (P : A → sProp 𝕄) : List A → sProp 𝕄
  | [] => iprop(emp)
  | x :: l => iprop(P x ∗ all P l)

omit [FloatOps F] in
theorem all_append {A : Type} (P : A → sProp 𝕄) (l l' : List A) : all P (l ++ l') = iprop(all P l ∗ all P l') := by
  induction l with
  | nil => exact (empL _).symm
  | cons x l ih => rw [List.cons_append, all, all, ih, sepA]

omit [FloatOps F] in
theorem all_map {A B : Type} (P : B → sProp 𝕄) (f : A → B) (l : List A) : all P (l.map f) = all (fun x => P (f x)) l := by
  induction l with
  | nil => rfl
  | cons x l ih => rw [List.map_cons, all, all, ih]

omit [FloatOps F] in
theorem all_mono {A : Type} {P Q : A → sProp 𝕄} {l : List A} (h : ∀ x ∈ l, P x ⊢ Q x) : all P l ⊢ all Q l := by
  induction l with
  | nil => exact Entails.refl _
  | cons x l ih =>
    exact BI.sep_mono (h x List.mem_cons_self) (ih fun y hy => h y (List.mem_cons_of_mem _ hy))

omit [FloatOps F] in
theorem all_congr {A : Type} {P Q : A → sProp 𝕄} {l : List A} (h : ∀ x ∈ l, P x = Q x) : all P l = all Q l :=
  Entails.antisymm (all_mono fun x hx => Entails.of_eq (h x hx)) (all_mono fun x hx => Entails.of_eq (h x hx).symm)

omit [FloatOps F] in
theorem all_flatMap {A B : Type} (P : B → sProp 𝕄) (f : A → List B) (l : List A) :
    all P (l.flatMap f) = all (fun x => all P (f x)) l := by
  induction l with
  | nil => rfl
  | cons x l ih => rw [List.flatMap_cons, all_append, all, ih]

omit [FloatOps F] in
theorem all_perm {A : Type} (P : A → sProp 𝕄) {l l' : List A} (h : l.Perm l') : all P l = all P l' := by
  induction h with
  | nil => rfl
  | cons x _ ih => rw [all, all, ih]
  | swap x y l =>
    rw [all, all, all, all, ← sepA, ← sepA, sepC (P y)]
  | trans _ _ h1 h2 => exact h1.trans h2

omit [FloatOps F] in
instance all_storable {A : Type} (P : A → sProp 𝕄) [∀ x, BI.Storable (upEmb : UEmb _ 𝕄) (P x)] (l : List A) :
    BI.Storable (upEmb : UEmb _ 𝕄) (all P l) := by
  induction l with
  | nil => unfold all; infer_instance
  | cons x l ih => unfold all; infer_instance

/-! ## Rows and regions -/

omit [FloatOps F] in
theorem rowsOf_split {d : Dev nD} {B : Bf} {S S₁ S₂ : ℕ → Bool}
    (h : ∀ n < B.groups, S n = (S₁ n || S₂ n) ∧ ¬(S₁ n = true ∧ S₂ n = true)) :
    rowsOf d B S = rowsOf d B S₁ ∪ rowsOf d B S₂ ∧ Disjoint (rowsOf d B S₁) (rowsOf d B S₂) := by
  constructor
  · ext i
    simp only [rowsOf, Finset.mem_union, Finset.mem_filter, Finset.mem_univ, true_and]
    rw [(h _ (frow_lt d B i)).1, Bool.or_eq_true]
  · rw [Finset.disjoint_left]
    intro i h1 h2
    simp only [rowsOf, Finset.mem_filter, Finset.mem_univ, true_and] at h1 h2
    exact (h _ (frow_lt d B i)).2 ⟨h1, h2⟩

/-- Memory of one region at given contents of its buffer. -/
abbrev regAt (d : Dev nD) (q : PosShare TreeShare) (f : ∀ B : Bf, Buf (Elt F) (B.at d)) (r : Rg) : sProp 𝕄 :=
  r.buf.at d ↦[rowsOf d r.buf (r.mem d)]{q} f r.buf

/-- Memory of one region at any contents. -/
abbrev regAny (d : Dev nD) (r : Rg) : sProp 𝕄 :=
  iprop(∃ f, r.buf.at d ↦[rowsOf d r.buf (r.mem d)]{fullShare} f)

theorem count_split {k : ℕ} {m s : Bool} (h : k + (if m = true then 1 else 0) = s.toNat) :
    k = (s && !m).toNat ∧ s = (m || (s && !m)) ∧ ¬(m = true ∧ (s && !m) = true) := by
  cases s <;> cases m <;> simp_all

theorem Cuts.tail {d : Dev nD} {B : Bf} {S : ℕ → Bool} {r : Rg} {l : List Rg} (h : Cuts d B S (r :: l)) :
    r.buf = B ∧ Cuts d B (fun n => S n && !r.mem d n) l
      ∧ ∀ n < B.groups, S n = (r.mem d n || (S n && !r.mem d n)) ∧ ¬(r.mem d n = true ∧ (S n && !r.mem d n) = true) := by
  obtain ⟨hb, hn⟩ := h
  have key : ∀ n < B.groups, _ := fun n hlt => count_split (by have := hn n hlt; rwa [List.countP_cons] at this)
  exact ⟨hb r List.mem_cons_self, ⟨fun x hx => hb x (List.mem_cons_of_mem _ hx), fun n hlt => (key n hlt).1⟩,
    fun n hlt => (key n hlt).2⟩

theorem Cuts.nil {d : Dev nD} {B : Bf} {S : ℕ → Bool} (h : Cuts d B S []) : rowsOf d B S = ∅ := by
  unfold rowsOf
  rw [Finset.filter_eq_empty_iff]
  intro i _ hi
  have := h.2 _ (frow_lt d B i)
  rw [hi] at this
  exact Nat.zero_ne_one this

/-- Rows held at a share are their regions held at that share. -/
theorem rows_regs {d : Dev nD} {B : Bf} (q : PosShare TreeShare) (f : ∀ B : Bf, Buf (Elt F) (B.at d)) :
    ∀ {l : List Rg} {S : ℕ → Bool}, Cuts d B S l → (B.at d ↦[rowsOf d B S]{q} f B : sProp 𝕄) = all (regAt d q f) l := by
  intro l
  induction l with
  | nil => intro S h; rw [h.nil, pointsTo_empty]; rfl
  | cons r l ih =>
    intro S h
    obtain ⟨hb, ht, hs⟩ := h.tail
    subst hb
    obtain ⟨e, hd⟩ := rowsOf_split hs
    rw [e, Entails.antisymm (pointsTo_union hd).1 (pointsTo_union hd).2, all, ih ht]

/-- Regions held at any contents hold their rows at some contents. -/
theorem regs_rows {d : Dev nD} {B : Bf} :
    ∀ {l : List Rg} {S : ℕ → Bool}, Cuts d B S l → all (regAny d) l ⊢ (iprop(∃ f, B.at d ↦[rowsOf d B S]{fullShare} f) : sProp 𝕄) := by
  intro l
  induction l with
  | nil =>
    intro S h
    rw [h.nil]
    iintro _
    iexists fill d B fun _ _ => FloatOps.ofBits .f32 0
    rw [pointsTo_empty]
    iempintro
  | cons r l ih =>
    intro S h
    obtain ⟨hb, ht, hs⟩ := h.tail
    subst hb
    obtain ⟨e, hd⟩ := rowsOf_split hs
    rw [e, all]
    iintro ⟨⟨%f, Hf⟩, Hl⟩
    ihave H := (ih ht) $$ Hl
    icases H with ⟨%g, Hg⟩
    iexists _
    iapply (pointsTo_join hd)
    isplitl [Hf]
    · iexact Hf
    · iexact Hg

/-- And the other way round. -/
theorem rows_any {d : Dev nD} {B : Bf} {l : List Rg} {S : ℕ → Bool} (h : Cuts d B S l) (f : Buf (Elt F) (B.at d)) :
    (B.at d ↦[rowsOf d B S]{fullShare} f : sProp 𝕄) ⊢ all (regAny d) l := by
  have hz : ∀ B' : Bf, Nonempty (Buf (Elt F) (B'.at d)) := fun B' => ⟨fill d B' fun _ _ => FloatOps.ofBits .f32 0⟩
  let f' : ∀ B' : Bf, Buf (Elt F) (B'.at d) := fun B' => if e : B = B' then e ▸ f else (hz B').some
  have e : f' B = f := by simp only [f', dif_pos]
  rw [← e, rows_regs fullShare f' h]
  refine all_mono fun r _ => ?_
  iintro H
  iexists f' r.buf
  iexact H

end Cert.KernelIdeal.Run
-- ==== Proof.Cells.lean ====
/-
  What a device holds while it runs, as a list of atoms; the cells of the protocol and what each delivers.
-/
module

public import proofs.«01_k».proof.Proof.Mem
public import Idealize.ShloMosaic.Lib.Rounds

@[expose] public section

noncomputable section

namespace Cert.KernelIdeal.Run

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Cert.KernelIdeal Cert.KernelIdeal.Facts₀ Cert.KernelIdeal.Facts

variable {F : FTy → Type} [FloatOps F]

local notation "𝕄" => MT nD τ sig Unit (Elt F) ℕ UU ℕ

/-- The protocol's own bookkeeping inside the launch's. -/
abbrev ER : Emb (URounds (GSem nD τ sig) (Fin 5)) (MT nD τ sig Unit (Elt F) ℕ UU ℕ) := embR

/-! ## Memory atoms -/

/-- The shares in which a region is held: the whole, and four quarters of it, one for each of the copies that may read
    the region at the same time. -/
inductive Sh
  | full
  | ll
  | lr
  | rl
  | rr
  deriving DecidableEq

def Sh.q : Sh → PosShare TreeShare
  | .full => fullShare
  | .ll => fullShare.left.left | .lr => fullShare.left.right
  | .rl => fullShare.right.left | .rr => fullShare.right.right

/-- Memory of a region: the device's own, at a share and a version of the contents; or that of the device which signal
    `k` addresses, whole and at any contents. -/
inductive Me
  | own (r : Rg) (s : Sh) (v : Ver)
  | peer (k : Fin 5) (r : Rg)
  deriving DecidableEq

variable (X : Dev nD → ℕ → ℕ → F .f32)

/-- What the buffers of device `c` hold at a version. -/
def bufs (c : Dev nD) (v : Ver) (B : Bf) : Buf (Elt F) (B.at c) := fill c B (val X c B v)

def Me.holds (c : Dev nD) : Me → sProp 𝕄
  | .own r _ .any => regAny c r
  | .own r s .a => regAt c s.q (bufs X c .a) r
  | .own r s .b => regAt c s.q (bufs X c .b) r
  | .peer k r => regAny (sigTo c k) r

instance (c : Dev nD) (a : Me) : BI.Storable (upEmb : UEmb _ 𝕄) (a.holds X c) := by
  rcases a with ⟨r, s, _ | _ | _⟩ | ⟨k, r⟩ <;> unfold Me.holds <;> infer_instance

/-- Whether several copies read a region at the same time once it holds version `v`. -/
def Rg.shared : Rg → Ver → Bool
  | .q _ _, _ | .y _ _, _ => true
  | .cm 2 _, .b => true
  | _, _ => false

/-- A region as the pieces in which it is dealt. -/
def pieces (v : Ver) (r : Rg) : List Me :=
  if r.shared v then [.own r .ll v, .own r .lr v, .own r .rl v, .own r .rr v] else [.own r .full v]

theorem four (d : Dev nD) (f : ∀ B : Bf, Buf (Elt F) (B.at d)) (r : Rg) :
    (regAt d fullShare f r : sProp 𝕄)
      = iprop(regAt d Sh.ll.q f r ∗ regAt d Sh.lr.q f r ∗ regAt d Sh.rl.q f r ∗ regAt d Sh.rr.q f r) := by
  have half : ∀ q : PosShare TreeShare, (regAt d q f r : sProp 𝕄) = iprop(regAt d q.left f r ∗ regAt d q.right f r) := fun q =>
    Entails.antisymm (pointsTo_share (PosShare.mem_left_op_right q)).1 (pointsTo_share (PosShare.mem_left_op_right q)).2
  rw [half fullShare, half fullShare.left, half fullShare.right, sepA]
  rfl

/-- Pieces together are the region. -/
theorem all_pieces (c : Dev nD) {v : Ver} (hv : v ≠ .any) (r : Rg) :
    (all (Me.holds X c) (pieces v r) : sProp 𝕄) = regAt c fullShare (bufs X c v) r := by
  unfold pieces
  cases v with
  | any => exact absurd rfl hv
  | a =>
    split
    · rw [four]; simp only [all, Me.holds, sepC _ (iprop(emp)), empL]
    · simp only [all, Me.holds, sepC _ (iprop(emp)), empL]; rfl
  | b =>
    split
    · rw [four]; simp only [all, Me.holds, sepC _ (iprop(emp)), empL]
    · simp only [all, Me.holds, sepC _ (iprop(emp)), empL]; rfl

/-! ## Cells -/

/-- The cells of a device's copies: of the source of a remote copy (`S`), of a copy's arrival from another device (`R`),
    of a local copy (`L`). -/
inductive Ck
  | S (t : Tr)
  | R (t : Tr)
  | L (l : Lc)
  deriving DecidableEq

abbrev Ck.sem : Ck → DmaSem sig
  | .S t => t.ss | .R t => t.rs | .L l => l.sem

abbrev Ck.ht : Ck → Ht
  | .S t | .R t => t.ht | .L l => l.ht

/-- The share at which a remote copy reads. -/
abbrev Tr.ssh : Tr → Sh
  | .zs _ _ => .full | .za _ _ => .ll | .y _ _ => .lr | .x _ _ => .rl

/-- The share at which a local copy reads. -/
abbrev Lc.ssh : Lc → Sh
  | .st _ => .full | .xo _ => .full | .cp => .rr | .o _ => .rr

/-- The memory a remote copy reads; a local copy reads; a local copy writes. -/
abbrev Tr.smem (t : Tr) : List Me := t.src.regs.map fun r => .own r t.ssh t.sver
abbrev Lc.smem (l : Lc) : List Me := l.src.regs.map fun r => .own r l.ssh l.sver

/-- The memory a cell delivers to its device. -/
abbrev Ck.pay : Ck → List Me
  | .S t => t.smem
  | .R t => t.dregs.flatMap (pieces .a)
  | .L l => l.dst.regs.flatMap (pieces .a) ++ l.smem

/-- The level of a cell, in the order in which devices wait: what is owed to a cell is paid by waits for lower ones. -/
abbrev Ck.lvl : Ck → ℕ
  | .S _ | .L _ => 0
  | .R (.zs s _) => 2 + s.val | .R (.za s _) => 5 + s.val | .R (.y t _) => 8 + t.val | .R (.x _ _) => 11

def f3 (n : ℕ) : Fin 3 := ⟨n % 3, Nat.mod_lt _ (by decide)⟩
def f4 (n : ℕ) : Fin 4 := ⟨n % 4, Nat.mod_lt _ (by decide)⟩

/-- The cell of a semaphore. -/
def ckOf (m : DmaSem sig) : Ck :=
  let n := m.val
  if n < 12 then .S (.zs (f3 (n / 4)) (f4 n)) else if n < 24 then .R (.zs (f3 (n / 4)) (f4 n))
  else if n < 36 then .S (.za (f3 (n / 4)) (f4 n)) else if n < 48 then .R (.za (f3 (n / 4)) (f4 n))
  else if n < 60 then .S (.y (f3 (n / 4)) (f4 n)) else if n < 72 then .R (.y (f3 (n / 4)) (f4 n))
  else if n < 88 then .S (.x (f4 (n / 4 - 18)) (f4 n)) else if n < 104 then .R (.x (f4 (n / 4 - 22)) (f4 n))
  else if n < 105 then .L .cp else if n < 108 then .L (.st (f3 (n - 105)))
  else if n < 112 then .L (.o (f4 (n - 108))) else .L (.xo (f4 (n - 112)))

theorem ckOf_sem (k : Ck) : ckOf k.sem = k := by
  rcases k with (⟨s, j⟩ | ⟨s, j⟩ | ⟨s, j⟩ | ⟨s, j⟩) | (⟨s, j⟩ | ⟨s, j⟩ | ⟨s, j⟩ | ⟨s, j⟩) | (s | _ | s | s)
  all_goals first | (revert s j; decide +kernel) | (revert s; decide +kernel) | decide +kernel

theorem sem_ckOf : ∀ m : DmaSem sig, (ckOf m).sem = m := by decide +kernel

theorem Ck.sem_inj {k k' : Ck} (h : k.sem = k'.sem) : k = k' := by rw [← ckOf_sem k, h, ckOf_sem]

/-- The units a cell receives. -/
def Ht.amt (h : Ht) : ℕ := RefSig.tileCredit h.shape .f32

/-- The memory that signal `k` of the starting barrier hands over: the ring buffer and the three pieces of the quarter
    buffer that arrive from other devices, to the previous device along z; the y exchange buffer, to the previous one
    along y; the x exchange buffer, across x. -/
def sigMem : Fin 5 → List Rg :=
  ![[], (r3.flatMap fun s => r4.map (.cm s)) ++ (r3.flatMap fun s => r4.map (.q s.succ)), [],
    r3.flatMap fun t => r4.map (.y t), r4.flatMap fun b => r4.map (.x b)]

/-- The signal whose target is the device from which signal `k` comes. -/
def back : Fin 5 → Fin 5 := ![1, 0, 3, 2, 4]

theorem sigTo_back : ∀ (k : Fin 5) (c : Dev nD), sigTo (sigTo c k) (back k) = c := by decide +kernel

abbrev barPay (k : Fin 5) : List Me := (sigMem k).map (.peer (back k))

/-- The cell of semaphore `s` of device `c`. -/
abbrev kc (c : Dev nD) (k : Ck) : GSem nD τ sig := ((c : Thread nD τ), .dma k.sem)
abbrev bc (c : Dev nD) : GSem nD τ sig := ((c : Thread nD τ), .reg barSem)

/-- The protocol: one round. A barrier has five duties of one unit, each delivering the memory its signal hands over; a
    copy's cell has one duty, delivering the memory the copy read or filled. -/
def Rd : Schedule (GSem nD τ sig) (Fin 5) 𝕄 where
  duties g r := if r = 0 ∧ g.1.2 = .tc then (match g.2 with | .reg _ => Finset.univ | .dma _ => {0}) else ∅
  unitless _ := False
  amount g _ _ := match g.2 with | .reg _ => 1 | .dma m => (ckOf m).ht.amt
  payload g _ d := match g.2 with
    | .reg _ => all (Me.holds X g.1.1) (barPay d)
    | .dma m => all (Me.holds X g.1.1) (ckOf m).pay
  amount_pos g _ _ _ := by
    rcases g with ⟨_, _ | m⟩
    · exact Nat.one_pos
    · show 0 < (ckOf m).ht.amt
      cases (ckOf m).ht <;> decide

instance Rd_storable (g : GSem nD τ sig) (r : ℕ) (d : Fin 5) : BI.Storable (upEmb : UEmb _ 𝕄) ((Rd (F := F) X).payload g r d) := by
  rcases g with ⟨_, _ | m⟩
  · show BI.Storable upEmb (all (Me.holds X _) (barPay d)); infer_instance
  · show BI.Storable upEmb (all (Me.holds X _) (ckOf m).pay); infer_instance

section Facts
variable (c : Dev nD)

theorem duties_b : (Rd (F := F) X).duties (bc c) 0 = Finset.univ := rfl
theorem duties_k (k : Ck) : (Rd (F := F) X).duties (kc c k) 0 = {0} := rfl
theorem duties_later (g : GSem nD τ sig) : ∀ r, 1 ≤ r → (Rd (F := F) X).duties g r = ∅ := fun r hr => if_neg fun h => by omega
theorem amount_b (d : Fin 5) : (Rd (F := F) X).amount (bc c) 0 d = 1 := rfl
theorem amount_k (k : Ck) (d : Fin 5) : (Rd (F := F) X).amount (kc c k) 0 d = k.ht.amt := by
  show (ckOf k.sem).ht.amt = _
  rw [ckOf_sem]
theorem payload_b (d : Fin 5) : (Rd (F := F) X).payload (bc c) 0 d = all (Me.holds X c) (barPay d) := rfl
theorem payload_k (k : Ck) (d : Fin 5) : (Rd (F := F) X).payload (kc c k) 0 d = all (Me.holds X c) k.pay := by
  show all (Me.holds X c) (ckOf k.sem).pay = _
  rw [ckOf_sem]
theorem expect_b : (Rd (F := F) X).expect (bc c) 0 = 5 := rfl
theorem expect_k (k : Ck) : (Rd (F := F) X).expect (kc c k) 0 = k.ht.amt := by
  unfold Schedule.expect Schedule.amountOf
  rw [duties_k, Finset.sum_singleton, amount_k]
theorem rest_k (k : Ck) : bigSep ((Rd (F := F) X).duties (kc c k) 0 \ ∅) (fun d => (Rd (F := F) X).payload (kc c k) 0 d)
    = all (Me.holds X c) k.pay := by
  rw [Finset.sdiff_empty, duties_k, bigSep_singleton, payload_k]

/-- All the barrier's duties deliver. -/
abbrev barMem : List Me := (List.finRange 5).flatMap barPay

theorem rest_b : bigSep ((Rd (F := F) X).duties (bc c) 0 \ ∅) (fun d => (Rd (F := F) X).payload (bc c) 0 d)
    = all (Me.holds X c) barMem := by
  rw [Finset.sdiff_empty, duties_b, bigSep_univ_eq_bigSepL [0, 1, 2, 3, 4] (by decide) (by decide), all_flatMap]
  show _ = all (fun d => all (Me.holds X c) (barPay d)) [0, 1, 2, 3, 4]
  simp only [bigSepL_cons_cons, bigSepL_singleton, all, payload_b, sepC _ (iprop(emp)), empL]
  rfl

end Facts

/-! ## Atoms -/

/-- What a device may hold: memory; the right to pay one of its own cells, the arrival cell of the copy `t` it sends, a
    neighbour's barrier; its position at one of its cells or at its barrier; credit there; the counter there at zero. -/
inductive Atom
  | m (a : Me)
  | tok (k : Ck)
  | tokR (t : Tr)
  | tokB (k : Fin 5)
  | pos (k : Ck)
  | cr (k : Ck)
  | zero (k : Ck)
  | posB
  | crB
  | zeroB
  deriving DecidableEq

def Atom.holds (c : Dev nD) : Atom → sProp 𝕄
  | .m a => a.holds X c
  | .tok k => dutyTok ER (kc c k) 0 0
  | .tokR t => dutyTok ER (kc (t.to c) (.R t)) 0 0
  | .tokB k => dutyTok ER (bc (sigTo c k)) 0 k
  | .pos k => atPos ER (kc c k) 0 ∅ 0
  | .cr k => cred (tallyAt (kc c k) () k.ht.amt)
  | .zero k => semVal (kc c k) 0
  | .posB => atPos ER (bc c) 0 ∅ 0
  | .crB => cred (tallyAt (bc c) () 5)
  | .zeroB => semVal (bc c) 0

theorem all_m (c : Dev nD) (l : List Me) : (all (Atom.holds X c) (l.map .m) : sProp 𝕄) = all (Me.holds X c) l := all_map _ _ _

/-! ## What is owed -/

/-- What a device owes: its five signals and its remote copies' arrivals. -/
inductive Due
  | b (k : Fin 5)
  | t (t : Tr)
  deriving DecidableEq

def Due.cell (c : Dev nD) : Due → GSem nD τ sig
  | .b k => bc (sigTo c k) | .t u => kc (u.to c) (.R u)
def Due.amt : Due → ℕ
  | .b _ => 1 | .t u => u.ht.amt
def Due.lvl : Due → ℕ
  | .b _ => 1 | .t u => (Ck.R u).lvl

def owed (c : Dev nD) : List Due → CellTallies nD τ sig Unit
  | [] => 0
  | d :: l => owed c l + tallyAt (d.cell c) () d.amt

def L (g : GSem nD τ sig) : Finset Unit := if g.1.2 = .tc then {()} else ∅
def lvS : SemLoc sig → ℕ
  | .reg _ => 1 | .dma m => (ckOf m).lvl
def lv (g : GSem nD τ sig) (_ : Unit) : ℕ := lvS g.2

theorem L_of_ne (g : GSem nD τ sig) (h : g.1.2 ≠ .tc) : L g = ∅ := if_neg h

theorem Due.lv_cell (c : Dev nD) (d : Due) : lvS (d.cell c).2 = d.lvl ∧ L (d.cell c) = {()} := by
  cases d with
  | b k => exact ⟨rfl, rfl⟩
  | t u => exact ⟨congrArg Ck.lvl (ckOf_sem (.R u)), rfl⟩

theorem owed_pos {c : Dev nD} {g : GSem nD τ sig} {u : Unit} : ∀ {l : List Due}, 0 < owed c l g u → ∃ d ∈ l, g = d.cell c := by
  intro l
  induction l with
  | nil => intro h; exact absurd h (Nat.lt_irrefl 0)
  | cons d l ih =>
    intro h
    by_cases he : g = d.cell c
    · exact ⟨d, List.mem_cons_self, he⟩
    · rw [owed, Pi.add_apply, Finsupp.add_apply, tallyAt_apply, if_neg (fun h' => he h'.1), Nat.add_zero] at h
      obtain ⟨d', hd, e⟩ := ih h
      exact ⟨d', List.mem_cons_of_mem _ hd, e⟩

/-- A device may wait at a cell below everything it owes. -/
theorem mayWait (c : Dev nD) (sm : SemLoc sig) (l : List Due) (h : ∀ d ∈ l, lvS sm < d.lvl) :
    (levAts L lv : sProp 𝕄) ⊢ MayWait (c : Thread nD τ) sm () (owed c l) :=
  MayOwe.of_cut (L := L) (lev := lv) (lvS sm) (fun p hp => by rw [Finset.mem_singleton.mp hp]; exact Finset.mem_singleton_self _)
    (fun g u hg => by
      obtain ⟨d, -, rfl⟩ := owed_pos hg
      rw [(d.lv_cell c).2]; exact Finset.mem_singleton_self _)
    (fun p hp => by rw [Finset.mem_singleton.mp hp]; exact Nat.le_refl _)
    (fun g u hg => by
      obtain ⟨d, hd, rfl⟩ := owed_pos hg
      show _ < lvS (d.cell c).2
      rw [(d.lv_cell c).1]; exact h d hd)

end Cert.KernelIdeal.Run
-- ==== Proof.Sched.lean ====
/-
  The kernel's commands as moves of atoms, and the check that every command finds the atoms it needs.
-/
module

public import proofs.«01_k».proof.Proof.Cells

@[expose] public section

noncomputable section

namespace Cert.KernelIdeal.Run

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Cert.KernelIdeal Cert.KernelIdeal.Facts₀ Cert.KernelIdeal.Facts

variable {F : FTy → Type} [FloatOps F]

local notation "𝕄" => MT nD τ sig Unit (Elt F) ℕ UU ℕ

/-! ## What commands take and give -/

/-- The signal whose target is the device a remote copy addresses. -/
def Tr.sig : Tr → Fin 5
  | .zs _ _ | .za _ _ => 0 | .y _ _ => 2 | .x _ _ => 4

theorem Tr.sigTo_sig (c : Dev nD) (t : Tr) : sigTo c t.sig = t.to c := by cases t <;> rfl

/-- The atoms a command takes. -/
def pre : Cmd → List Atom
  | .sig k => .tokB k :: (sigMem k).map fun r => .m (.own r .full .any)
  | .bar => [.posB, .crB]
  | .go t => [.tok (.S t), .tokR t] ++ t.smem.map .m ++ t.dregs.map fun r => .m (.peer t.sig r)
  | .cpy l => .tok (.L l) :: l.smem.map .m ++ l.dst.regs.map fun r => .m (.own r .full .any)
  | .ws t => [.pos (.S t), .cr (.S t)]
  | .wr t => [.pos (.R t), .cr (.R t)]
  | .wl l => [.pos (.L l), .cr (.L l)]
  | .add s j => [.m (.own (.cm s j) .full .a), .m (.own (.st s j) .full .a)]

/-- The atoms a command gives. -/
def post : Cmd → List Atom
  | .sig _ => []
  | .bar => .zeroB :: barMem.map .m
  | .go t => [.cr (.S t)]
  | .cpy l => [.cr (.L l)]
  | .ws t => .zero (.S t) :: (Ck.S t).pay.map .m
  | .wr t => .zero (.R t) :: (Ck.R t).pay.map .m
  | .wl l => .zero (.L l) :: (Ck.L l).pay.map .m
  | .add s j => (pieces .b (.cm s j) ++ [Me.own (.st s j) .full .a]).map .m

/-- What is owed after a command, if the command may run: a signal or a remote copy pays the first due; a wait must be
    at a cell below every due. -/
def pays : Cmd → List Due → Option (List Due)
  | .sig k, l => if l.head? = some (.b k) then some l.tail else none
  | .go t, l => if l.head? = some (.t t) then some l.tail else none
  | .bar, l => if l.all fun d => Nat.blt 1 d.lvl then some l else none
  | .ws t, l => if l.all fun d => Nat.blt (Ck.S t).lvl d.lvl then some l else none
  | .wr t, l => if l.all fun d => Nat.blt (Ck.R t).lvl d.lvl then some l else none
  | .wl k, l => if l.all fun d => Nat.blt (Ck.L k).lvl d.lvl then some l else none
  | .cpy _, l | .add _ _, l => some l

/-! ## Taking atoms -/

/-- Take one atom from a list. -/
def take (a : Atom) : List Atom → Option (List Atom)
  | [] => none
  | b :: l => if a = b then some l else (take a l).map (b :: ·)

/-- Take several atoms from a list. -/
def takes : List Atom → List Atom → Option (List Atom)
  | [], l => some l
  | a :: ts, l => (take a l).bind (takes ts)

theorem take_perm {a : Atom} : ∀ {l l' : List Atom}, take a l = some l' → l.Perm (a :: l') := by
  intro l
  induction l with
  | nil => intro l' h; cases h
  | cons b l ih =>
    intro l' h
    unfold take at h
    split at h
    · next e => subst e; cases h; exact List.Perm.refl _
    · rw [Option.map_eq_some_iff] at h
      obtain ⟨l₁, h₁, rfl⟩ := h
      exact ((ih h₁).cons b).trans (List.Perm.swap a b l₁)

theorem takes_perm : ∀ {ts l l' : List Atom}, takes ts l = some l' → l.Perm (ts ++ l') := by
  intro ts
  induction ts with
  | nil => intro l l' h; cases h; exact List.Perm.refl _
  | cons a ts ih =>
    intro l l' h
    unfold takes at h
    rw [Option.bind_eq_some_iff] at h
    obtain ⟨l₁, h₁, h₂⟩ := h
    exact (take_perm h₁).trans ((ih h₂).cons a)

/-- Run the commands on what is owed and what is held. -/
def exec : List Cmd → List Due → List Atom → Option (List Due × List Atom)
  | [], D, l => some (D, l)
  | x :: xs, D, l => (pays x D).bind fun D' => (takes (pre x) l).bind fun l' => exec xs D' (post x ++ l')

/-! ## The start and the end -/

/-- The remote copies in the order they are started. -/
def copies : List Tr := program.filterMap fun | .go t => some t | _ => none

/-- What a device owes at the start. -/
def dues : List Due := (List.finRange 5).map .b ++ copies.map .t

/-- All cells of a device's copies. -/
def cks : List Ck := (List.finRange 116).map ckOf

/-- All regions of the buffers that are not launched with contents. -/
def fresh : List Rg :=
  (r3.flatMap fun s => r4.map (.cm s)) ++ (r3.flatMap fun s => r4.map (.st s)) ++ (r4.flatMap fun i => r4.map (.q i))
  ++ (r3.flatMap fun t => r4.map (.y t)) ++ (r4.flatMap fun b => r4.map (.x b)) ++ r4.map .o ++ r4.map .xo

/-- The regions of the argument. -/
def args : List Rg := r4.map .xq ++ r3.map .xs ++ [.xr]

/-- What a device holds at the start. -/
def start : List Atom :=
  args.map (fun r => .m (.own r .full .a)) ++ fresh.map (fun r => .m (.own r .full .any))
  ++ cks.map .pos ++ .posB :: .crB :: (cks.filterMap fun | .R t => some (.cr (.R t)) | _ => none)
  ++ (cks.filterMap fun | .R t => some (.tokR t) | k => some (.tok k)) ++ (List.finRange 5).map .tokB

/-- The version at which a region is held at the end. -/
def Rg.last : Rg → Ver
  | .cm _ _ => .b | _ => .a

/-- What a device holds at the end. -/
def finish : List Atom :=
  (args ++ fresh).flatMap (fun r => (pieces r.last r).map .m) ++ cks.map .zero ++ [.zeroB]

set_option maxRecDepth 1000000 in
/-- The commands run from the start to the end, all dues paid. -/
theorem exec_ok : (exec program dues start).map (fun p => (p.1, takes finish p.2)) = some ([], some []) := by
  decide +kernel

end Cert.KernelIdeal.Run
-- ==== Proof.Sound.lean ====
/-
  Every command, run on the atoms it takes, gives the atoms it says.
-/
module

public import proofs.«01_k».proof.Proof.Sched

@[expose] public section

noncomputable section

namespace Cert.KernelIdeal.Run

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Cert.KernelIdeal Cert.KernelIdeal.Facts₀ Cert.KernelIdeal.Facts

variable {F : FTy → Type} [FloatOps F]

local notation "𝕄" => MT nD τ sig Unit (Elt F) ℕ UU ℕ

variable (X : Dev nD → ℕ → ℕ → F .f32)

/-! ## Blocks in terms of memory atoms -/

theorem hrow_lt : ∀ {h : Ht} (x : h.shape.Idx), hrow x < 64 * h.u
  | .s, x => (show S64x1024.Idx from x) 0 |>.isLt
  | .m, x => (show S256x1024.Idx from x) 0 |>.isLt
  | .l, x => (show S1024x1024.Idx from x) 0 |>.isLt

/-- Memory under a view depends only on what the view reads. -/
theorem view_congr {d : Dev nD} {sp : Space} {s : Shape} (v : View sig .tc sp s .f32) (q : PosShare TreeShare)
    {f g : Buf (Elt F) (v.loc (d : Thread nD τ))} (h : ∀ x, v.read (Elt F) f x = v.read (Elt F) g x) :
    (v.loc (d : Thread nD τ) ↦[v.set]{q} f : sProp 𝕄) = (v.loc (d : Thread nD τ) ↦[v.set]{q} g) := by
  refine pointsTo_congr fun i hi => ?_
  obtain ⟨x, -, rfl⟩ := Finset.mem_map.mp hi
  have := h x
  rw [View.read_apply, View.read_apply] at this
  simpa using this

/-- What a version of a block's regions at a share is: the memory under the block's reference, reading the block's rows. -/
theorem src_eq (c : Dev nD) {h : Ht} (b : Blk h) (s : Sh) {v : Ver} (hv : v ≠ .any) :
    ∃ fs, (all (Me.holds X c) (b.regs.map fun r => .own r s v) : sProp 𝕄)
        = ((mr c b).view.loc (c : Thread nD τ) ↦[(mr c b).view.set]{s.q} fs)
      ∧ ∀ x, (mr c b).view.read (Elt F) fs x = val X c b.buf v (64 * lo c b + hrow x) (hcol x) := by
  obtain ⟨e, he, hr⟩ := blk_iso (F := F) c c b
  refine ⟨e (bufs X c v b.buf), ?_, fun x => hr _ x⟩
  rw [← he, rows_regs s.q (bufs X c v) (cuts c b), all_map]
  refine all_congr fun r _ => ?_
  cases v with
  | any => exact absurd rfl hv
  | a => rfl
  | b => rfl

/-- Regions at any contents are the memory under a block's reference at some contents. -/
theorem dst_any {d c : Dev nD} {h : Ht} {b : Blk h} {l : List Rg} (hc : Cuts d b.buf (grp c b) l) :
    all (regAny d) l ⊢ (iprop(∃ fd, (mr c b).view.loc (d : Thread nD τ) ↦[(mr c b).view.set]{fullShare} fd) : sProp 𝕄) := by
  obtain ⟨e, he, -⟩ := blk_iso (F := F) d c b
  refine (regs_rows hc).trans ?_
  iintro ⟨%f, Hf⟩
  iexists e f
  rw [← he]
  iexact Hf

/-- Memory under a block's reference that reads what the block is to hold is its regions' pieces. -/
theorem dst_of {d c : Dev nD} {h : Ht} {b : Blk h} {l : List Rg} (hc : Cuts d b.buf (grp c b) l)
    (f : Buf (Elt F) ((mr c b).view.loc (d : Thread nD τ)))
    (hf : ∀ x, (mr c b).view.read (Elt F) f x = val X d b.buf .a (64 * lo c b + hrow x) (hcol x)) :
    ((mr c b).view.loc (d : Thread nD τ) ↦[(mr c b).view.set]{fullShare} f : sProp 𝕄)
      = all (Me.holds X d) (l.flatMap (pieces .a)) := by
  obtain ⟨e, he, hr⟩ := blk_iso (F := F) d c b
  rw [all_flatMap, all_congr fun r _ => all_pieces X d (v := .a) (by decide) r, ← rows_regs fullShare (bufs X d .a) hc, he]
  exact view_congr _ _ fun x => (hf x).trans (hr _ x).symm

/-! ## Commands -/

abbrev 𝒱₀ : Variants := Variants.none

/-- Running a program on device `c`. -/
abbrev WP (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- The protocol's invariants and that every cell has reached its round. -/
def Recs (K : Dev nD × SemLoc sig → ℕ) : sProp 𝕄 :=
  iprop((bigSep Finset.univ fun p : Dev nD × SemLoc sig => cellInv ER (Rd X) (K p) ((p.1 : Thread nD τ), p.2))
    ∗ bigSep Finset.univ fun p : Dev nD × SemLoc sig => reached ER ((p.1 : Thread nD τ), p.2) 0)

instance (K : Dev nD × SemLoc sig → ℕ) : BI.Persistent (Recs (F := F) X K) := by unfold Recs; infer_instance

theorem Recs.at (K : Dev nD × SemLoc sig → ℕ) (d : Dev nD) (sm : SemLoc sig) :
    Recs X K ⊢ (iprop(cellInv ER (Rd X) (K (d, sm)) ((d : Thread nD τ), sm) ∗ reached ER ((d : Thread nD τ), sm) 0) : sProp 𝕄) := by
  unfold Recs
  exact BI.sep_mono (bigSep_elim (Finset.mem_univ (d, sm))) (bigSep_elim (Finset.mem_univ (d, sm)))

/-- What a device owes, whatever it has waited for. -/
def Owes (c : Dev nD) (l : List Due) : sProp 𝕄 := iprop(∃ W, owes (c : Thread nD τ) (owed c l) W)

variable (K : Dev nD × SemLoc sig → ℕ) (c : Dev nD) {k : PUnit → Prog (TpuEff nD τ sig (Elt F) Λ₀ .tc) PUnit} {Q : PUnit → sProp 𝕄}

/-- A command's statement: on what is owed and the atoms it takes, it runs and gives what is then owed and its atoms. -/
abbrev Runs (x : Cmd) (D D' : List Due) : Prop :=
  ∀ (k : PUnit → Prog (TpuEff nD τ sig (Elt F) Λ₀ .tc) PUnit) (Q : PUnit → sProp 𝕄),
  iprop(Recs X K ∗ levAts L lv ∗ Owes c D ∗ all (Atom.holds X c) (pre x))
    ⊢ iprop(((Owes c D' ∗ all (Atom.holds X c) (post x)) -∗ WP c (k ⟨⟩) Q) -∗ WP c ((code c x).bind k) Q)

/-- A signal of the starting barrier. -/
theorem run_sig (j : Fin 5) (D : List Due) : Runs X K c (.sig j) (.b j :: D) D := fun k Q => by
  have hpay : (all (Atom.holds X c) ((sigMem j).map fun r => .m (.own r .full .any)) : sProp 𝕄)
      = (Rd (F := F) X).payload (bc (sigTo c j)) 0 j := by
    rw [payload_b, all_map, all_map]
    refine all_congr fun r _ => ?_
    show regAny c r = regAny (sigTo (sigTo c j) (back j)) r
    rw [sigTo_back]
  show iprop(Recs X K ∗ levAts L lv ∗ Owes c (.b j :: D) ∗ (dutyTok ER (bc (sigTo c j)) 0 j
    ∗ all (Atom.holds X c) ((sigMem j).map fun r => .m (.own r .full .any)))) ⊢ _
  rw [hpay]
  simp only [code, sigDev_eq, semSignalWord, Prog.lift, Prog.bind_op, Prog.bind_ret, Prog.pure_eq_ret]
  unfold Owes
  iintro ⟨#HR, -, ⟨%W, HO⟩, Ht, Hp⟩
  ihave H := (Recs.at X K (sigTo c j) (.reg barSem)) $$ HR
  icases H with ⟨#HI, #Hr⟩
  iintro Hk
  iapply (Rounds.wp_signal 𝒱₀ ER (Rd X) (c : Thread nD τ) none (dst := (sigTo c j : Thread nD τ)) (κ := K (sigTo c j, .reg barSem))
      (d := j) (Finset.mem_univ _) ((amount_b X (sigTo c j) j).trans (by decide)) () (owed c D) rfl) $$ [HO Ht Hp]
  · isplitr; · iexact HI
    isplitl [HO]; · iexact HO
    isplitl [Ht]; · iexact Ht
    isplitl [Hp]; · iexact Hp
    iexact Hr
  iintro HO
  iapply Hk
  isplitl [HO]
  · iexists W; iexact HO
  · iempintro

/-- The wait for the starting barrier. -/
theorem run_bar (D : List Due) (h : ∀ d ∈ D, 1 < d.lvl) : Runs X K c .bar D D := fun k Q => by
  show iprop(Recs X K ∗ levAts L lv ∗ Owes c D ∗ (atPos ER (bc c) 0 ∅ 0 ∗ cred (tallyAt (bc c) () 5) ∗ emp))
    ⊢ iprop(((Owes c D ∗ (semVal (bc c) 0 ∗ all (Atom.holds X c) (barMem.map .m))) -∗ WP c (k ⟨⟩) Q) -∗ WP c ((code c .bar).bind k) Q)
  rw [all_m]
  simp only [code, semWaitWord, Prog.lift, Prog.bind_op, Prog.bind_ret, Prog.pure_eq_ret]
  unfold Owes
  iintro ⟨#HR, #Hlev, ⟨%W, HO⟩, Hat, Hc, -⟩
  ihave H := (Recs.at X K c (.reg barSem)) $$ HR
  icases H with ⟨#HI, #Hr⟩
  iintro Hk
  iapply (Rounds.wp_wait_rest_token 𝒱₀ ER (Rd X) (c : Thread nD τ) none (κ := K (c, .reg barSem))
      (wpE_semWait_eq 𝒱₀ (c : Thread nD τ) none Set.univ) (Set.mem_univ _) () (O := owed c D) (W := W) (R := 0) (m := 0) (T := ∅)
      (by rw [expect_b]; decide)) $$ [Hc HO Hat]
  · isplitr; · iexact HI
    isplitl [Hc]; · iexact Hc
    isplitl [HO]; · iexact HO
    isplitr; · iapply (mayWait c (.reg barSem) D h); iexact Hlev
    iexact Hat
  iintro ⟨HO, Hat, -, Hpay⟩
  ihave Hp := (Entails.of_eq (rest_b X c)) $$ Hpay
  imod (Rounds.cell_close ER (Rd X) (Set.mem_univ (K (c, .reg barSem))) (fun h => h) (R := 0 + 1) (duties_later X (bc c))) $$ [Hat] with Hz
  · isplitr; · iexact HI
    iexact Hat
  iapply Hk
  isplitl [HO]
  · iexists _; iexact HO
  isplitl [Hz]
  · iexact Hz
  · iexact Hp

/-- A wait at one of the cells of a device's copies gives what the cell delivers, and the cell closes. -/
theorem run_wait (g : Ck) (D : List Due) (h : ∀ d ∈ D, g.lvl < d.lvl) (w : TpuEff nD τ sig (Elt F) Λ₀ .tc PUnit)
    (hw : ∀ P : PUnit → sProp 𝕄, wpE (defs₀ (F := F)) 𝒱₀ (c : Thread nD τ) none Set.univ w P
      = waitSpec (c : Thread nD τ) Set.univ (.dma g.sem) g.ht.amt P)
    (k : PUnit → Prog (TpuEff nD τ sig (Elt F) Λ₀ .tc) PUnit) (Q : PUnit → sProp 𝕄) :
    iprop(Recs X K ∗ levAts L lv ∗ Owes c D ∗ all (Atom.holds X c) [.pos g, .cr g])
      ⊢ iprop(((Owes c D ∗ all (Atom.holds X c) (.zero g :: g.pay.map .m)) -∗ WP c (k ⟨⟩) Q) -∗ WP c (.op w k) Q) := by
  show iprop(Recs X K ∗ levAts L lv ∗ Owes c D ∗ (atPos ER (kc c g) 0 ∅ 0 ∗ cred (tallyAt (kc c g) () g.ht.amt) ∗ emp))
    ⊢ iprop(((Owes c D ∗ (semVal (kc c g) 0 ∗ all (Atom.holds X c) (g.pay.map .m))) -∗ WP c (k ⟨⟩) Q) -∗ WP c (.op w k) Q)
  rw [all_m]
  unfold Owes
  iintro ⟨#HR, #Hlev, ⟨%W, HO⟩, Hat, Hc, -⟩
  ihave H := (Recs.at X K c (.dma g.sem)) $$ HR
  icases H with ⟨#HI, #Hr⟩
  iintro Hk
  iapply (Rounds.wp_wait_rest_token 𝒱₀ ER (Rd X) (c : Thread nD τ) none (κ := K (c, .dma g.sem))
      hw (Set.mem_univ _) () (O := owed c D) (W := W) (R := 0) (m := 0) (T := ∅)
      (by rw [Nat.zero_add, expect_k])) $$ [Hc HO Hat]
  · isplitr; · iexact HI
    isplitl [Hc]; · iexact Hc
    isplitl [HO]; · iexact HO
    isplitr
    · iapply (mayWait c (.dma g.sem) D (fun d hd => by rw [show lvS (.dma g.sem) = g.lvl from congrArg Ck.lvl (ckOf_sem g)]; exact h d hd))
      iexact Hlev
    iexact Hat
  iintro ⟨HO, Hat, -, Hpay⟩
  ihave Hp := (Entails.of_eq (rest_k X c g)) $$ Hpay
  imod (Rounds.cell_close ER (Rd X) (Set.mem_univ (K (c, .dma g.sem))) (fun h => h) (R := 0 + 1) (duties_later X (kc c g))) $$ [Hat] with Hz
  · isplitr; · iexact HI
    iexact Hat
  iapply Hk
  isplitl [HO]
  · iexists _; iexact HO
  isplitl [Hz]
  · iexact Hz
  · iexact Hp

/-- A block's reference credits the units of its height. -/
theorem credit (c : Dev nD) : ∀ {h : Ht} (b : Blk h), (mr c b).view.dmaCredit = h.amt
  | .s, _ | .m, _ | .l, _ => rfl

theorem run_ws (t : Tr) (D : List Due) (h : ∀ d ∈ D, (Ck.S t).lvl < d.lvl) : Runs X K c (.ws t) D D := fun k Q =>
  run_wait X K c (.S t) D h _ (fun P => (wpE_waitDma2_eq 𝒱₀ (c : Thread nD τ) none Set.univ P).trans (by rw [credit])) k Q

theorem run_wr (t : Tr) (D : List Due) (h : ∀ d ∈ D, (Ck.R t).lvl < d.lvl) : Runs X K c (.wr t) D D := fun k Q =>
  run_wait X K c (.R t) D h _ (fun P => (wpE_waitDma2_eq 𝒱₀ (c : Thread nD τ) none Set.univ P).trans (by rw [credit])) k Q

theorem run_wl (l : Lc) (D : List Due) (h : ∀ d ∈ D, (Ck.L l).lvl < d.lvl) : Runs X K c (.wl l) D D := fun k Q =>
  run_wait X K c (.L l) D h _ (fun P => (wpE_waitDma2_eq 𝒱₀ (c : Thread nD τ) none Set.univ P).trans (by rw [credit])) k Q

/-- What a copy reads has known contents. -/
theorem Tr.sver_ne (t : Tr) : t.sver ≠ .any := by
  rcases t with ⟨s, j⟩ | ⟨s, j⟩ | ⟨s, j⟩ | ⟨s, j⟩ <;> (revert s j; decide)
theorem Lc.sver_ne (l : Lc) : l.sver ≠ .any := by
  rcases l with s | _ | s | s <;> (try revert s) <;> decide

/-- A remote copy: it reads its source's regions and hands them back, and fills the regions of the addressed device. -/
theorem run_go (t : Tr) (D : List Due) : Runs X K c (.go t) (.t t :: D) D := fun k Q => by
  obtain ⟨fs, hfs, hread⟩ := src_eq X c t.src t.ssh (v := t.sver) t.sver_ne
  have hp : (all (Atom.holds X c) (t.dregs.map fun r => .m (.peer t.sig r)) : sProp 𝕄) = all (regAny (t.to c)) t.dregs := by
    rw [all_map]
    refine all_congr fun r _ => ?_
    show regAny (sigTo c t.sig) r = _
    rw [t.sigTo_sig]
  -- the copy, stated for the device number it computes
  have step : ∀ (n : Dev nD) (hn : n = t.to c) (hsem : (DmaTarget.remote (τ := τ) (p := .tc) (Dev.tc n) (mr c t.dst) (.dma t.ss)).Typed t.src.buf.sp (.dma t.rs)),
      iprop(Recs X K ∗ levAts L lv ∗ Owes c (.t t :: D) ∗ (dutyTok ER (kc c (.S t)) 0 0 ∗ dutyTok ER (kc (t.to c) (.R t)) 0 0
          ∗ (all (Me.holds X c) t.smem ∗ all (regAny (t.to c)) t.dregs)))
        ⊢ iprop(((Owes c D ∗ (cred (tallyAt (kc c (.S t)) () t.ht.amt) ∗ emp)) -∗ WP c (k ⟨⟩) Q)
          -∗ WP c (.op (.enqueueDma (mr c t.src) (.remote (Dev.tc n) (mr c t.dst) (.dma t.ss)) (.dma t.rs) (mr_words c _) (mr_words c _) hsem) k) Q) := by
    intro n hn hsem
    subst hn
    rw [show t.smem = t.src.regs.map (fun r => Me.own r t.ssh t.sver) from rfl, hfs]
    unfold Owes
    iintro ⟨#HR, -, ⟨%W, HO⟩, Ht, HtR, Hs, Hd⟩
    ihave Hd := (dst_any (dcuts c t)) $$ Hd
    icases Hd with ⟨%fd, Hd⟩
    ihave H1 := (Recs.at X K c (.dma t.ss)) $$ HR
    icases H1 with ⟨#HI1, #Hr1⟩
    ihave H2 := (Recs.at X K (t.to c) (.dma t.rs)) $$ HR
    icases H2 with ⟨#HI2, #Hr2⟩
    iintro Hk
    iapply (Rounds.wp_send_pointsTo 𝒱₀ ER (Rd X) (c : Thread nD τ) none (κ₁ := K (c, .dma t.ss)) (κ₂ := K (t.to c, .dma t.rs)) (r₁ := 0) (r₂ := 0)
        (d₁ := 0) (d₂ := 0) (fd := fd) (by rw [duties_k X c (.S t)]; exact Finset.mem_singleton_self _)
        (by rw [duties_k X (t.to c) (.R t)]; exact Finset.mem_singleton_self _) () () t.ht.amt (show (mr c t.dst).view.amount (.dma t.rs) = _ from credit c t.dst)
        (amount_k X c (.S t) 0) (amount_k X (t.to c) (.R t) 0) (owed c D) rfl (W := W)
        (by rw [payload_k X c (.S t)]; exact Entails.of_eq hfs.symm)
        (by
          rw [payload_k X (t.to c) (.R t)]
          refine Entails.of_eq (dst_of X (dcuts c t) _ fun x => ?_)
          rw [View.read_write_univ]
          exact (hread x).trans ((t.same c).val X (hrow_lt x) _))) $$ [HO Ht HtR Hs Hd]
    · isplitr; · iexact HI1
      isplitr; · iexact HI2
      isplitl [Hs]; · iexact Hs
      isplitl [Hd]; · iexact Hd
      isplitl [HO]; · iexact HO
      isplitl [Ht]; · iexact Ht
      isplitr; · iexact Hr1
      isplitl [HtR]; · iexact HtR
      iexact Hr2
    iintro ⟨Hc, HO⟩
    iapply Hk
    isplitl [HO]
    · iexists _; iexact HO
    isplitl [Hc]
    · iexact Hc
    · iempintro
  have := step (t.dev c) (t.dev_eq c) (t.typed c)
  rw [← hp] at this
  simp only [pre, all_append, all_m, List.cons_append, List.nil_append, all]
  exact this

/-- A local copy. -/
theorem run_cpy (l : Lc) (D : List Due) : Runs X K c (.cpy l) D D := fun k Q => by
  obtain ⟨fs, hfs, hread⟩ := src_eq X c l.src l.ssh (v := l.sver) l.sver_ne
  have hp : (all (Atom.holds X c) (l.dst.regs.map fun r => .m (.own r .full .any)) : sProp 𝕄) = all (regAny c) l.dst.regs := all_map _ _ _
  have step : iprop(Recs X K ∗ levAts L lv ∗ Owes c D ∗ (dutyTok ER (kc c (.L l)) 0 0
          ∗ (all (Me.holds X c) l.smem ∗ all (regAny c) l.dst.regs)))
        ⊢ iprop(((Owes c D ∗ (cred (tallyAt (kc c (.L l)) () l.ht.amt) ∗ emp)) -∗ WP c (k ⟨⟩) Q) -∗ WP c ((code c (.cpy l)).bind k) Q) := by
    rw [show l.smem = l.src.regs.map (fun r => Me.own r l.ssh l.sver) from rfl, hfs]
    simp only [code, Prog.lift, Prog.bind_op, Prog.bind_ret, Prog.pure_eq_ret]
    iintro ⟨#HR, -, HO, Ht, Hs, Hd⟩
    ihave Hd := (dst_any (cuts c l.dst)) $$ Hd
    icases Hd with ⟨%fd, Hd⟩
    ihave H1 := (Recs.at X K c (.dma l.sem)) $$ HR
    icases H1 with ⟨#HI1, #Hr1⟩
    iintro Hk
    iapply (Rounds.wp_copy_pointsTo 𝒱₀ ER (Rd X) (c : Thread nD τ) none (κ := K (c, .dma l.sem)) (r := 0) (d := 0) (fd := fd)
        (by rw [duties_k X c (.L l)]; exact Finset.mem_singleton_self _) () l.ht.amt (show (mr c l.dst).view.amount (.dma l.sem) = _ from credit c l.dst) (amount_k X c (.L l) 0)
        (by
          rw [payload_k X c (.L l)]
          rw [show (Ck.L l).pay = l.dst.regs.flatMap (pieces .a) ++ l.smem from rfl, all_append]
          refine BI.sep_mono (Entails.of_eq (dst_of X (cuts c l.dst) _ fun x => ?_)) (Entails.of_eq hfs.symm)
          rw [View.read_write_univ]
          exact (hread x).trans ((l.same c).val X (hrow_lt x) _))) $$ [Ht Hs Hd]
    · isplitr; · iexact HI1
      isplitl [Hs]; · iexact Hs
      isplitl [Hd]; · iexact Hd
      isplitl [Ht]; · iexact Ht
      iexact Hr1
    iintro Hc
    iapply Hk
    isplitl [HO]
    · iexact HO
    isplitl [Hc]
    · iexact Hc
    · iempintro
  rw [← hp] at step
  simp only [pre, all_append, all_m, List.cons_append, List.nil_append, all]
  exact step

/-! ## The addition -/

/-- The elements that an addition's load or store reaches are the region's. -/
theorem within_iff (a u n : ℕ) : within a u n = true ↔ decide (a ≤ n ∧ n < a + u) = true := by
  simp only [within, Bool.and_eq_true, Nat.ble_eq, Nat.blt_eq, decide_eq_true_eq]
theorem cm_set (s : Fin 3) (j : Fin 4) :
    rowsOf c .comm (Rg.mem c (.cm s j)) = ((Memref.whole cc0_scratch0).access (addRect s j)).set :=
  (filter_eq fun r => (within_iff _ _ _).trans (mem3 (n := 3) (k := 4) rfl 1 (at_cm c s j) r)).trans (View.set_slice_whole _ _).symm
theorem st_set (s : Fin 3) (j : Fin 4) :
    rowsOf c .stage (Rg.mem c (.st s j)) = ((Memref.whole cc0_scratch1).access (addRect s j)).set :=
  (filter_eq fun r => (within_iff _ _ _).trans (mem3 (n := 3) (k := 4) rfl 1 (at_cm c s j) r)).trans (View.set_slice_whole _ _).symm

theorem addPay_apply (a b : Vec F S1x64x1024 .f32) (x : S1x64x1024.Idx) : addPay a b x = FloatOps.addf (a x) (b x) :=
  congrArg₂ FloatOps.addf (congrFun (shapeCast_shapeCast a _ _) x) (congrFun (shapeCast_shapeCast b _ _) x)

theorem total_append (r q : ℕ) : ∀ {l : List (Dev nD)} (_ : l ≠ []) (e : Dev nD),
    total X r q (l ++ [e]) = FloatOps.addf (total X r q l) (X e r q) := by
  intro l h e
  cases l with
  | nil => exact absurd rfl h
  | cons d l =>
    show List.foldl _ _ (l ++ [e]) = _
    rw [List.foldl_append]
    rfl

/-- A row of the part after the addition: what was there and the device's own row, added up. -/
theorem val_add (s : Fin 3) (j : Fin 4) {r : ℕ} (hr : r < 64) (q : ℕ) :
    val X c .comm .b (64 * (4 * s.val + j.val) + r) q
      = FloatOps.addf (val X c .comm .a (64 * (4 * s.val + j.val) + r) q) (val X c .stage .a (64 * (4 * s.val + j.val) + r) q) := by
  unfold val
  rw [div_row, Nat.div_eq_of_lt hr, Nat.add_zero, (add_kinds c s j).1, total_append X _ _ (add_kinds c s j).2]
  rfl

/-- The row and the column of an element of a part. -/
theorem add_row (s : Fin 3) (j : Fin 4) (g : ℕ → ℕ → F .f32) (x : S1x64x1024.Idx) :
    g (256 * (s.val + 1 * (x 0).val) + (64 * j.val + 1 * (x 1).val)) (0 + 1 * (x 2).val) = g (64 * (4 * s.val + j.val) + (x 1).val) (x 2).val := by
  have h0 : (x 0).val < 1 := (x 0).isLt
  congr 1 <;> omega

theorem read_cm (s : Fin 3) (j : Fin 4) (v : Ver) (x : S1x64x1024.Idx) :
    ((Memref.whole cc0_scratch0).access (addRect s j)).read (Elt F) (bufs X c v .comm) x
      = val X c .comm v (64 * (4 * s.val + j.val) + (x 1).val) (x 2).val := add_row s j (val X c .comm v) x
theorem read_st (s : Fin 3) (j : Fin 4) (v : Ver) (x : S1x64x1024.Idx) :
    ((Memref.whole cc0_scratch1).access (addRect s j)).read (Elt F) (bufs X c v .stage) x
      = val X c .stage v (64 * (4 * s.val + j.val) + (x 1).val) (x 2).val := add_row s j (val X c .stage v) x

theorem reg_cm (s : Fin 3) (j : Fin 4) (v : Ver) : (regAt c fullShare (bufs X c v) (.cm s j) : sProp 𝕄)
    = (((Memref.whole cc0_scratch0).access (addRect s j)).loc (c : Thread nD τ)
        ↦[((Memref.whole cc0_scratch0).access (addRect s j)).set]{fullShare} bufs X c v .comm) := by
  rw [← cm_set c s j]
theorem reg_st (s : Fin 3) (j : Fin 4) (v : Ver) : (regAt c fullShare (bufs X c v) (.st s j) : sProp 𝕄)
    = (((Memref.whole cc0_scratch1).access (addRect s j)).loc (c : Thread nD τ)
        ↦[((Memref.whole cc0_scratch1).access (addRect s j)).set]{fullShare} bufs X c v .stage) := by
  rw [← st_set c s j]

/-- The addition of a part. -/
theorem run_add (s : Fin 3) (j : Fin 4) (D : List Due) : Runs X K c (.add s j) D D := fun k Q => by
  show iprop(Recs X K ∗ levAts L lv ∗ Owes c D ∗ (regAt c fullShare (bufs X c .a) (.cm s j)
      ∗ regAt c fullShare (bufs X c .a) (.st s j) ∗ emp))
    ⊢ iprop(((Owes c D ∗ all (Atom.holds X c) ((pieces .b (.cm s j) ++ [Me.own (.st s j) .full .a]).map .m)) -∗ WP c (k ⟨⟩) Q)
      -∗ WP c ((code c (.add s j)).bind k) Q)
  rw [all_m, all_append, all_pieces X c (by decide)]
  rw [show (all (Me.holds X c) [Me.own (.st s j) .full .a] : sProp 𝕄) = iprop(regAt c fullShare (bufs X c .a) (.st s j) ∗ emp) from rfl]
  rw [reg_cm, reg_st, reg_cm]
  simp only [code, Prog.lift, Prog.bind_op, Prog.bind_ret, Prog.pure_eq_ret]
  iintro ⟨-, -, HO, Hc, Hs, -⟩ Hk
  iapply (wp_load_rect 𝒱₀ (c : Thread nD τ) none Set.univ (m := Memref.whole cc0_scratch0) (r := addRect s j) (Finset.Subset.refl _)) $$ Hc; iintro Hc
  iapply (wp_load_rect 𝒱₀ (c : Thread nD τ) none Set.univ (m := Memref.whole cc0_scratch1) (r := addRect s j) (Finset.Subset.refl _)) $$ Hs; iintro Hs
  iapply (wp_load_rect 𝒱₀ (c : Thread nD τ) none Set.univ (m := Memref.whole cc0_scratch0) (r := addRect s j) (Finset.Subset.refl _)) $$ Hc; iintro Hc
  iapply (wp_store 𝒱₀ (c : Thread nD τ) none Set.univ (m := Memref.whole cc0_scratch0) (r := addRect s j) (Mk := Finset.univ)
    (S := ((Memref.whole cc0_scratch0).access (addRect s j)).set) (Finset.Subset.refl _)) $$ Hc; iintro Hc
  ihave Hc := (Entails.of_eq (view_congr ((Memref.whole cc0_scratch0).access (addRect s j)) fullShare (g := bufs X c .b .comm) fun x => by
    rw [View.read_write_univ, addPay_apply, read_cm, read_cm, read_st, val_add X c s j (x 1).isLt])) $$ Hc
  iapply Hk
  isplitl [HO]; · iexact HO
  isplitl [Hc]; · iexact Hc
  isplitl [Hs]; · iexact Hs
  iempintro

/-! ## The program -/

/-- Every command that the check lets run runs. -/
theorem cmd_sound {x : Cmd} {D D' : List Due} (h : pays x D = some D') : Runs X K c x D D' := by
  have hall : ∀ {n : ℕ}, (D.all fun d => Nat.blt n d.lvl) = true → ∀ d ∈ D, n < d.lvl := fun h d hd =>
    Nat.blt_eq.mp (List.all_eq_true.mp h d hd)
  have hif : ∀ {b : Bool}, (if b = true then some D else none) = some D' → b = true ∧ D = D' := by
    intro b h
    cases b with
    | true => exact ⟨rfl, Option.some.inj h⟩
    | false => cases h
  have hhd : ∀ {d : Due}, (if D.head? = some d then some D.tail else none) = some D' → D = d :: D' := by
    intro d h
    split at h
    · next e =>
      cases D with
      | nil => cases e
      | cons a l => cases e; cases h; rfl
    · cases h
  cases x with
  | sig j => obtain rfl := hhd h; exact run_sig X K c j D'
  | go t => obtain rfl := hhd h; exact run_go X K c t D'
  | bar => obtain ⟨hb, rfl⟩ := hif h; exact run_bar X K c D (hall hb)
  | ws t => obtain ⟨hb, rfl⟩ := hif h; exact run_ws X K c t D (hall hb)
  | wr t => obtain ⟨hb, rfl⟩ := hif h; exact run_wr X K c t D (hall hb)
  | wl l => obtain ⟨hb, rfl⟩ := hif h; exact run_wl X K c l D (hall hb)
  | cpy l => cases h; exact run_cpy X K c l D
  | add s j => cases h; exact run_add X K c s j D

/-- A list of commands that the check lets run runs, from the atoms the check starts at to those it ends at. -/
theorem run_sound {D' : List Due} {l' : List Atom} (Q : PUnit → sProp 𝕄) : ∀ (xs : List Cmd) {D : List Due} {l : List Atom},
    exec xs D l = some (D', l') →
    iprop(Recs X K ∗ levAts L lv ∗ Owes c D ∗ all (Atom.holds X c) l)
      ⊢ iprop(((Owes c D' ∗ all (Atom.holds X c) l') -∗ Q ⟨⟩) -∗ WP c (run c xs) Q) := by
  intro xs
  induction xs with
  | nil =>
    intro D l h
    cases h
    unfold run WP
    rw [wp_ret]
    iintro ⟨-, -, HO, Ha⟩ Hk
    imodintro
    iapply Hk
    isplitl [HO]; · iexact HO
    iexact Ha
  | cons x xs ih =>
    intro D l h
    unfold exec at h
    rw [Option.bind_eq_some_iff] at h
    obtain ⟨D₁, h₁, h⟩ := h
    rw [Option.bind_eq_some_iff] at h
    obtain ⟨l₁, h₂, h⟩ := h
    rw [all_perm _ (takes_perm h₂), all_append]
    unfold run
    iintro ⟨#HR, #Hlev, HO, Hp, Hl⟩ Hk
    iapply (cmd_sound X K c h₁ _ Q) $$ [HO Hp]
    · isplitr; · iexact HR
      isplitr; · iexact Hlev
      isplitl [HO]; · iexact HO
      iexact Hp
    iintro ⟨HO, Hp⟩
    iapply (ih h) $$ [HO Hp Hl]
    · isplitr; · iexact HR
      isplitr; · iexact Hlev
      isplitl [HO]; · iexact HO
      rw [all_append]
      isplitl [Hp]; · iexact Hp
      iexact Hl
    iexact Hk

/-- The kernel's body: from what a device holds and owes at the start to what it holds at the end, owing nothing. -/
theorem body_sound (Q : PUnit → sProp 𝕄) :
    iprop(Recs X K ∗ levAts L lv ∗ Owes c dues ∗ all (Atom.holds X c) start)
      ⊢ iprop(((Owes c [] ∗ all (Atom.holds X c) finish) -∗ Q ⟨⟩) -∗ WP c (run c program) Q) := by
  have h := exec_ok
  rw [Option.map_eq_some_iff] at h
  obtain ⟨⟨D', l'⟩, h, e⟩ := h
  obtain ⟨rfl, e⟩ := Prod.mk.inj e
  have hf : all (Atom.holds X c) l' = (all (Atom.holds X c) finish : sProp 𝕄) := by
    rw [all_perm _ (takes_perm e), List.append_nil]
  rw [← hf]
  exact run_sound X K c Q program h

end Cert.KernelIdeal.Run
-- ==== Proof.Deal.lean ====
/-
  What the launch deals: every cell's invariant and records to all devices, every device's positions, tokens and
  launch credit.
-/
module

public import proofs.«01_k».proof.Proof.Sound
public import Idealize.ShloMosaic.Lib.Pipeline.Launch

@[expose] public section

noncomputable section

namespace Cert.KernelIdeal.Run

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Cert.KernelIdeal Cert.KernelIdeal.Facts₀ Cert.KernelIdeal.Facts

variable {F : FTy → Type} [FloatOps F]

local notation "𝕄" => MT nD τ sig Unit (Elt F) ℕ UU ℕ

variable (X : Dev nD → ℕ → ℕ → F .f32)

/-! ## Families as lists -/

omit [FloatOps F] in
theorem bigSep_list {I : Type} [DecidableEq I] (Φ : I → sProp 𝕄) : ∀ {l : List I}, l.Nodup → bigSep l.toFinset Φ = all Φ l := by
  intro l
  induction l with
  | nil => intro _; rw [List.toFinset_nil, bigSep_empty]; rfl
  | cons x l ih =>
    intro h
    rw [List.nodup_cons] at h
    rw [List.toFinset_cons, bigSep_insert (fun hm => h.1 (List.mem_toFinset.mp hm)), ih h.2]
    rfl

omit [FloatOps F] in
/-- A family over a finite type is the list of its members. -/
theorem bigSep_all {I : Type} [Fintype I] [DecidableEq I] (Φ : I → sProp 𝕄) {l : List I} (hn : l.Nodup) (hc : ∀ i, i ∈ l) :
    bigSep Finset.univ Φ = all Φ l := by
  rw [← bigSep_list Φ hn]
  exact congrArg (fun S => bigSep S Φ) (Finset.ext fun i => ⟨fun _ => List.mem_toFinset.mpr (hc i), fun _ => Finset.mem_univ i⟩)

omit [FloatOps F] in
theorem bigSep_fin {n : ℕ} (Φ : Fin n → sProp 𝕄) : bigSep Finset.univ Φ = all Φ (List.finRange n) :=
  bigSep_all Φ (List.nodup_finRange n) List.mem_finRange

omit [FloatOps F] in
theorem bigSep_all_swap {I A : Type} [DecidableEq I] (S : Finset I) (Φ : I → A → sProp 𝕄) (l : List A) :
    bigSep S (fun i => all (Φ i) l) = all (fun x => bigSep S fun i => Φ i x) l := by
  induction l with
  | nil => exact bigSep_emp_const S
  | cons x l ih => rw [all, ← ih, ← bigSep_sep']; rfl

/-- An optional assertion. -/
def opt {A : Type} (P : A → sProp 𝕄) : Option A → sProp 𝕄
  | some x => P x
  | none => iprop(emp)

omit [FloatOps F] in
theorem all_filterMap {A B : Type} (P : B → sProp 𝕄) (f : A → Option B) (l : List A) :
    all P (l.filterMap f) = all (fun x => opt P (f x)) l := by
  induction l with
  | nil => rfl
  | cons x l ih =>
    rw [List.filterMap_cons, all]
    cases f x with
    | none => rw [opt, empL]; exact ih
    | some y => rw [opt, ← ih]; rfl

/-- All semaphores. -/
def sems : List (SemLoc sig) := .reg barSem :: (List.finRange 116).map .dma

set_option maxRecDepth 100000 in
theorem sems_nodup : sems.Nodup := by decide +kernel
set_option maxRecDepth 100000 in
theorem sems_all : ∀ s : SemLoc sig, s ∈ sems := by decide +kernel

omit [FloatOps F] in
theorem bigSep_sems (Φ : SemLoc sig → sProp 𝕄) :
    bigSep Finset.univ Φ = iprop(Φ (.reg barSem) ∗ all (fun m : DmaSem sig => Φ (.dma m)) (List.finRange 116)) := by
  rw [bigSep_all Φ sems_nodup sems_all, sems, all, all_map]

/-! ## Cells and tokens -/

/-- The cell of a device's semaphore. -/
abbrev cell (p : Dev nD × SemLoc sig) : GSem nD τ sig := ((p.1 : Thread nD τ), p.2)

theorem cell_inj : Function.Injective cell := by
  rintro ⟨c, s⟩ ⟨c', s'⟩ h
  have h1 : c = c' := congrArg (fun g : GSem nD τ sig => g.1.1) h
  have h2 : s = s' := congrArg (fun g : GSem nD τ sig => g.2) h
  rw [h1, h2]

theorem kc_ckOf (c : Dev nD) (m : DmaSem sig) : kc c (ckOf m) = cell (c, .dma m) := by
  unfold kc; rw [sem_ckOf]

/-- The tokens of a device's own cells: five of its barrier's, one of each copy's. -/
abbrev tokOf (p : Dev nD × (Fin 5 ⊕ DmaSem sig)) : GSem nD τ sig × ℕ × Fin 5 :=
  match p.2 with
  | .inl d => (bc p.1, 0, d)
  | .inr m => (cell (p.1, .dma m), 0, 0)

theorem tokOf_inj : Function.Injective tokOf := by
  rintro ⟨c, j⟩ ⟨c', j'⟩ h
  have h1 : c = c' := by
    have := congrArg (fun x : GSem nD τ sig × ℕ × Fin 5 => x.1.1.1) h
    rcases j with d | m <;> rcases j' with d' | m' <;> exact this
  subst h1
  rcases j with d | m <;> rcases j' with d' | m'
  · have : d = d' := congrArg (fun x : GSem nD τ sig × ℕ × Fin 5 => x.2.2) h
    rw [this]
  · exact absurd (congrArg (fun x : GSem nD τ sig × ℕ × Fin 5 => x.1.2) h) (fun h' => by cases h')
  · exact absurd (congrArg (fun x : GSem nD τ sig × ℕ × Fin 5 => x.1.2) h) (fun h' => by cases h')
  · have : SemLoc.dma (sig := sig) m = .dma m' := congrArg (fun x : GSem nD τ sig × ℕ × Fin 5 => x.1.2) h
    cases this; rfl

def devCells : Finset (GSem nD τ sig) := Finset.univ.map ⟨cell, cell_inj⟩
def devToks : Finset (GSem nD τ sig × ℕ × Fin 5) := Finset.univ.map ⟨tokOf, tokOf_inj⟩

/-- The tokens of a device's own cells. -/
def toks (c : Dev nD) : sProp 𝕄 :=
  iprop(all (fun d => dutyTok ER (bc c) 0 d) (List.finRange 5)
    ∗ all (fun m : DmaSem sig => dutyTok ER (cell (c, .dma m)) 0 0) (List.finRange 116))

/-- The token of semaphore `m` that device `c` spends: that of the device it sends to if `m` is for an arrival. -/
def payTok (c : Dev nD) (m : DmaSem sig) : sProp 𝕄 :=
  match ckOf m with
  | .R t => dutyTok ER (kc (t.to c) (.R t)) 0 0
  | k => dutyTok ER (kc c k) 0 0

/-- The tokens a device spends. -/
def payToks (c : Dev nD) : sProp 𝕄 :=
  iprop(all (fun d => dutyTok ER (bc (sigTo c d)) 0 d) (List.finRange 5) ∗ all (payTok (F := F) c) (List.finRange 116))

/-- What the launch element deals device `c`. -/
def G (c : Dev nD) : sProp 𝕄 :=
  iprop((bigSep Finset.univ fun s : SemLoc sig => roundState ER (Rd X) (cell (c, s)) 0)
    ∗ (bigSep Finset.univ fun s : SemLoc sig => iprop(atPos ER (cell (c, s)) 0 ∅ 0 ∗ reached ER (cell (c, s)) 0)) ∗ toks c)

/-- What a device keeps: its positions and the tokens it spends. -/
def linear (c : Dev nD) : sProp 𝕄 :=
  iprop((bigSep Finset.univ fun s : SemLoc sig => atPos ER (cell (c, s)) 0 ∅ 0) ∗ payToks c)

/-- What device `c` starts from: the records of all cells, its positions, its tokens. -/
def G' (c : Dev nD) : sProp 𝕄 := iprop((∃ K, Recs X K) ∗ linear c)

theorem fund_cells : BI.own (ER (initOf devCells devToks)) ⊢ (|==> bigSep Finset.univ (G X) : sProp 𝕄) := by
  have hX (Φ : GSem nD τ sig → sProp 𝕄) :
      bigSep devCells Φ = bigSep Finset.univ fun c : Dev nD => bigSep Finset.univ fun s : SemLoc sig => Φ (cell (c, s)) := by
    unfold devCells; rw [bigSep_map, bigSep_univ_prod]; rfl
  have hT : bigSep devToks (fun x => (dutyTok ER x.1 x.2.1 x.2.2 : sProp 𝕄)) = bigSep Finset.univ fun c : Dev nD => toks c := by
    unfold devToks; rw [bigSep_map, bigSep_univ_prod]
    exact bigSep_congr fun c _ => by unfold toks; rw [bigSep_univ_sum, bigSep_fin, bigSep_fin]; rfl
  iintro HX
  imod (Rounds.fund ER (Rd X) devCells devToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · iexact Hat'
    · iexact Hr'
  iexact Htok'

/-! ## Semaphores -/

abbrev osem : Fin 116 → SemLoc sig := fun m => .dma m

omit [FloatOps F] in
theorem ownSems0_eq (c : Dev nD) :
    (Pipeline.ownSems0 (Ix := Unit) (Name := ℕ) (U := UU) (Lvl := ℕ) (Val := Elt F) (τ := τ) osem c : sProp 𝕄)
      = all (fun m : DmaSem sig => semVal (cell (c, .dma m)) 0) (List.finRange 116) := by
  unfold Pipeline.ownSems0; rw [bigSep_fin]

set_option maxRecDepth 100000 in
omit [FloatOps F] in
theorem unscopedSems0_eq (c : Dev nD) : (unscopedSems0 c : sProp 𝕄) = semVal (bc c) 0 := by
  unfold unscopedSems0
  rw [bigSep_eq_bigSepL_of_eq [SemLoc.reg barSem] (by decide +kernel) (by decide +kernel)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun s : SemLoc sig => semVal (cell (c, s)) 0 : sProp 𝕄) := by
  rw [ownSems0_eq, unscopedSems0_eq, bigSep_sems]
  iintro ⟨HS, HB⟩
  isplitl [HB]; · iexact HB
  iexact HS

/-! ## All devices' cells at once -/

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun s : SemLoc sig => iprop(∃ κ : ℕ, cellInv ER (Rd X) κ (cell (c, s))))
          ∗ (bigSep Finset.univ fun s : SemLoc sig => iprop(atPos ER (cell (c, s)) 0 ∅ 0 ∗ reached ER (cell (c, s)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun s : SemLoc sig => semVal (cell (c, s)) 0)
        ∗ bigSep Finset.univ fun s : SemLoc sig => roundState ER (Rd X) (cell (c, s)) 0)
      ⊢ (|={Set.univ}=> bigSep Finset.univ fun s : SemLoc sig => iprop(∃ κ : ℕ, cellInv ER (Rd X) κ (cell (c, s))) : sProp 𝕄) from by
        rw [← bigSep_sep']
        exact (bigSep_mono fun s _ => (Rounds.body_intro ER (Rd X) (cell (c, s))).trans inv_alloc).trans (bigSep_fupd _ _)) $$ [Hv Hst] with Hinv
  · isplitl [Hv] <;> iassumption
  imodintro
  isplitl [Hinv]; · iexact Hinv
  isplitl [Hat]; · iexact Hat
  iexact Htok

/-- A remote copy's target, as a rearrangement of the devices. -/
def Tr.equiv (t : Tr) : Dev nD ≃ Dev nD := ⟨t.to, t.frm, t.frm_to, t.to_frm⟩

theorem back_sigTo : ∀ (k : Fin 5) (c : Dev nD), sigTo (sigTo c (back k)) k = c := by decide +kernel

/-- A signal's target, as a rearrangement of the devices. -/
def sigEquiv (k : Fin 5) : Dev nD ≃ Dev nD := ⟨(sigTo · k), (sigTo · (back k)), sigTo_back k, back_sigTo k⟩

theorem Tr.to_eq (t : Tr) (c : Dev nD) : t.equiv c = t.to c := rfl

/-- The tokens of every device's cells are those that every device spends. -/
theorem toks_around : (bigSep Finset.univ fun c : Dev nD => (toks c : sProp 𝕄)) = bigSep Finset.univ fun c : Dev nD => payToks c := by
  unfold toks payToks
  rw [bigSep_sep', bigSep_sep']
  simp only [bigSep_all_swap]
  refine congrArg₂ (fun P Q => iprop(P ∗ Q)) (all_congr fun d _ => ?_) (all_congr fun m _ => ?_)
  · rw [bigSep_univ_equiv (sigEquiv d)]; rfl
  · have key : ∀ k, ckOf m = k → (bigSep Finset.univ fun c : Dev nD => (dutyTok ER (kc c k) 0 0 : sProp 𝕄))
        = bigSep Finset.univ fun c => payTok (F := F) c m := by
      intro k hk
      unfold payTok
      rw [hk]
      rcases k with t | t | l
      · rfl
      · rw [bigSep_univ_equiv t.equiv]; rfl
      · rfl
    rw [← key _ rfl]
    simp only [kc_ckOf]

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun s : SemLoc sig => iprop(∃ κ : ℕ, cellInv ER (Rd X) κ (cell (c, s))))
          ∗ (bigSep Finset.univ fun s : SemLoc sig => iprop(atPos ER (cell (c, s)) 0 ∅ 0 ∗ reached ER (cell (c, s)) 0)) ∗ toks c) : sProp 𝕄)
      ⊢ bigSep Finset.univ (G' X) := by
  rw [bigSep_sep', bigSep_sep', ← bigSep_univ_prod (fun p : Dev nD × SemLoc sig => iprop(∃ κ : ℕ, cellInv ER (Rd X) κ (cell p))),
    bigSep_congr (s := Finset.univ) (fun (c : Dev nD) _ => bigSep_sep' Finset.univ (fun s : SemLoc sig => (atPos ER (cell (c, s)) 0 ∅ 0 : sProp 𝕄))
      (fun s => reached ER (cell (c, s)) 0)),
    bigSep_sep', ← bigSep_univ_prod (fun p : Dev nD × SemLoc sig => (reached ER (cell p) 0 : sProp 𝕄)), toks_around]
  iintro ⟨HI, ⟨Hat, #HR⟩, Htok⟩
  ihave HK := (BI.bigSep_exists_pi Finset.univ (fun (p : Dev nD × SemLoc sig) (κ : ℕ) => (cellInv ER (Rd X) κ (cell p) : sProp 𝕄))) $$ HI
  icases HK with ⟨%K, #HI⟩
  iapply (bigSep_with (R := Recs X K) (Φ := linear) fun c _ => show iprop(Recs X K ∗ linear c) ⊢ G' X c from by
    unfold G'
    iintro ⟨#H, Hl⟩
    isplitr
    · iexists K; iexact H
    · iexact Hl)
  isplitr
  · unfold Recs
    isplitl
    · iexact HI
    · iexact HR
  · unfold linear
    rw [bigSep_sep']
    isplitl [Hat]; · iexact Hat
    iexact Htok

/-- All devices' semaphores become cells under one update. -/
theorem glob : (bigSep Finset.univ fun c => iprop(Pipeline.ownSems0 (Ix := Unit) (Name := ℕ) (U := UU) (Lvl := ℕ) (Val := Elt F) (τ := τ) osem c
        ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The launch credit -/

/-- The device a due is owed to, the device by which device `c` is owed it, and the semaphore. -/
def Due.to (c : Dev nD) : Due → Dev nD
  | .b k => sigTo c k | .t u => u.to c
def Due.frm (c : Dev nD) : Due → Dev nD
  | .b k => sigTo c (back k) | .t u => u.frm c
def Due.sem : Due → SemLoc sig
  | .b _ => .reg barSem | .t u => .dma u.rs

theorem Due.cell_eq (c : Dev nD) (d : Due) : d.cell c = Run.cell (d.to c, d.sem) := by cases d <;> rfl
theorem Due.to_frm (c : Dev nD) (d : Due) : d.to (d.frm c) = c := by
  cases d with
  | b k => exact back_sigTo k c
  | t u => exact u.to_frm c
theorem Due.frm_to (c : Dev nD) (d : Due) : d.frm (d.to c) = c := by
  cases d with
  | b k => exact sigTo_back k c
  | t u => exact u.frm_to c

theorem due_sum (c : Dev nD) (s : SemLoc sig) (u : Due) :
    (∑ d : Dev nD, (tallyAt (u.cell d) () u.amt : CellTallies nD τ sig Unit) (cell (c, s)) ()) = if u.sem = s then u.amt else 0 := by
  split
  · next h =>
    rw [Finset.sum_eq_single (u.frm c), tallyAt_apply, Due.cell_eq, Due.to_frm, h, if_pos ⟨rfl, rfl⟩]
    · intro d _ hd
      rw [tallyAt_apply, if_neg]
      rintro ⟨e, -⟩
      rw [Due.cell_eq] at e
      have : c = u.to d := (Prod.mk.inj (cell_inj e)).1
      exact hd (by rw [this, Due.frm_to])
    · intro h; exact absurd (Finset.mem_univ _) h
  · next h =>
    refine Finset.sum_eq_zero fun d _ => ?_
    rw [tallyAt_apply, if_neg]
    rintro ⟨e, -⟩
    rw [Due.cell_eq] at e
    exact h (Prod.mk.inj (cell_inj e)).2.symm

theorem owed_sum (c : Dev nD) (s : SemLoc sig) (l : List Due) :
    (∑ d : Dev nD, owed d l (cell (c, s)) ()) = (l.map fun u => if u.sem = s then u.amt else 0).sum := by
  induction l with
  | nil => exact Finset.sum_const_zero
  | cons u l ih =>
    rw [List.map_cons, List.sum_cons, ← ih, ← due_sum c s u, ← Finset.sum_add_distrib]
    refine Finset.sum_congr rfl fun d _ => ?_
    rw [owed, Pi.add_apply, Finsupp.add_apply, Nat.add_comm]

set_option maxRecDepth 100000 in
theorem dues_bar : (dues.map fun u => if u.sem = .reg barSem then u.amt else 0).sum = 5 := by decide +kernel

set_option maxRecDepth 100000 in
theorem dues_dma : ∀ m : DmaSem sig, (dues.map fun u => if u.sem = .dma m then u.amt else 0).sum
    = match ckOf m with | .R t => t.ht.amt | _ => 0 := by decide +kernel

theorem launch_sum (c : Dev nD) (s : SemLoc sig) :
    tallyOn (cell (c, s)) (launchCredit (Pipeline.owing fun d => owed d dues) 0 (cell (c, s)))
      = (tallyAt (cell (c, s)) () (dues.map fun u => if u.sem = s then u.amt else 0).sum : CellTallies nD τ sig Unit) := by
  unfold tallyAt
  refine congrArg _ (Finsupp.ext fun u => ?_)
  cases u
  rw [Pipeline.launchCredit_owing, Finsupp.single_eq_same, owed_sum]

/-- The credit a device starts with: its barrier's five units and every arrival's. -/
theorem creds (c : Dev nD) :
    (Pipeline.launchCred (fun d => owed d dues) c : sProp 𝕄)
      ⊢ iprop(cred (tallyAt (bc c) () 5)
        ∗ all (fun m : DmaSem sig => match ckOf m with | .R t => cred (tallyAt (kc c (.R t)) () t.ht.amt) | _ => iprop(emp)) (List.finRange 116)) := by
  unfold Pipeline.launchCred
  rw [bigSep_sems]
  refine BI.sep_mono ?_ (all_mono fun m _ => ?_)
  · show cred (tallyOn (cell (c, .reg barSem)) _) ⊢ _
    rw [launch_sum, dues_bar]
  · show cred (tallyOn (cell (c, .dma m)) _) ⊢ _
    rw [launch_sum, dues_dma, ← kc_ckOf]
    generalize ckOf m = k
    rcases k with t | t | l
    · iintro -; iempintro
    · exact Entails.refl _
    · iintro -; iempintro

end Cert.KernelIdeal.Run
-- ==== Proof.Launch.lean ====
/-
  The run of the whole machine: from any memory with all counters at zero every device ends with its argument
  unchanged, its result as computed and all counters at zero.
-/
module

public import proofs.«01_k».proof.Proof.Deal
public import proofs.«01_k».proof.Proof.Gen.KernelIdeal.Launch
public import Idealize.ShloMosaic.Lib.Pipeline.CollectiveSegs

@[expose] public section

noncomputable section

namespace Cert.KernelIdeal.Run

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)
open Cert.KernelIdeal Cert.KernelIdeal.Gen Cert.KernelIdeal.Facts₀ Cert.KernelIdeal.Facts

variable {F : FTy → Type} [FloatOps F]

local notation "𝕄" => MT nD τ sig Unit (Elt F) ℕ UU ℕ

/-! ## Whole buffers -/

/-- The index of a row and a column. -/
def at2 (R C : ℕ) : S8192x1024.Idx
  | ⟨0, _⟩ => (⟨R % 8192, Nat.mod_lt _ (by decide)⟩ : Fin 8192)
  | ⟨1, _⟩ => (⟨C % 1024, Nat.mod_lt _ (by decide)⟩ : Fin 1024)

/-- The number that device `d`'s argument holds at a row and a column. -/
def argOf (m : (ℓ : Loc nD τ sig) → Buf (Elt F) ℓ) (d : Dev nD) (R C : ℕ) : F .f32 :=
  (show S8192x1024.Idx → F .f32 from m ((d : Thread nD τ).loc main_arg0)) (at2 R C)

theorem arg_eq (m : (ℓ : Loc nD τ sig) → Buf (Elt F) ℓ) (c : Dev nD) :
    bufs (argOf m) c .a .arg = m ((c : Thread nD τ).loc main_arg0) := by
  funext (i : S8192x1024.Idx)
  have h0 : (i 0).val < 8192 := (i 0).isLt
  have h1 : (i 1).val < 1024 := (i 1).isLt
  show (show S8192x1024.Idx → F .f32 from m ((c : Thread nD τ).loc main_arg0))
    (at2 (64 * ((i 0).val / 64) + (i 0).val % 64) (i 1).val) = (show S8192x1024.Idx → F .f32 from m ((c : Thread nD τ).loc main_arg0)) i
  congr 1
  funext a
  match a with
  | ⟨0, _⟩ => exact Fin.ext (show (64 * ((i 0).val / 64) + (i 0).val % 64) % 8192 = (i 0).val by omega)
  | ⟨1, _⟩ => exact Fin.ext (show (i 1).val % 1024 = (i 1).val by omega)

theorem rowsOf_true (d : Dev nD) (B : Bf) : rowsOf d B (fun _ => true) = Finset.univ := by
  unfold rowsOf; exact Finset.filter_true_of_mem fun _ _ => rfl

/-- The regions that make up a buffer. -/
def parts : Bf → List Rg
  | .arg => args
  | .comm => r3.flatMap fun s => r4.map (.cm s)
  | .stage => r3.flatMap fun s => r4.map (.st s)
  | .qb => r4.flatMap fun i => r4.map (.q i)
  | .yb => r3.flatMap fun t => r4.map (.y t)
  | .xb => r4.flatMap fun b => r4.map (.x b)
  | .out => r4.map .o ++ r4.map .xo

theorem fresh_eq : fresh = parts .comm ++ (parts .stage ++ (parts .qb ++ (parts .yb ++ (parts .xb ++ parts .out)))) := by decide +kernel

set_option maxRecDepth 100000 in
theorem cuts_arg : ∀ c, Cuts c .arg (fun _ => true) (parts .arg) := by decide +kernel
set_option maxRecDepth 100000 in
theorem cuts_out : ∀ c, Cuts c .out (fun _ => true) (parts .out) := by decide +kernel
set_option maxRecDepth 100000 in
theorem cuts_comm : ∀ c, Cuts c .comm (fun _ => true) (parts .comm) := by decide +kernel
set_option maxRecDepth 100000 in
theorem cuts_stage : ∀ c, Cuts c .stage (fun _ => true) (parts .stage) := by decide +kernel
set_option maxRecDepth 100000 in
theorem cuts_qb : ∀ c, Cuts c .qb (fun _ => true) (parts .qb) := by decide +kernel
set_option maxRecDepth 100000 in
theorem cuts_yb : ∀ c, Cuts c .yb (fun _ => true) (parts .yb) := by decide +kernel
set_option maxRecDepth 100000 in
theorem cuts_xb : ∀ c, Cuts c .xb (fun _ => true) (parts .xb) := by decide +kernel

theorem cuts_whole (c : Dev nD) (B : Bf) : Cuts c B (fun _ => true) (parts B) := by
  cases B
  · exact cuts_arg c
  · exact cuts_out c
  · exact cuts_comm c
  · exact cuts_stage c
  · exact cuts_qb c
  · exact cuts_yb c
  · exact cuts_xb c

/-- The version at which a buffer's regions are held at the end. -/
def Bf.last : Bf → Ver
  | .comm => .b | _ => .a

theorem last_eq : ∀ B : Bf, ∀ r ∈ parts B, r.last = B.last := by
  intro B; cases B <;> decide +kernel

/-- A whole buffer at any contents gives its regions. -/
theorem whole_any (c : Dev nD) (B : Bf) (f : Buf (Elt F) (B.at c)) : (B.at c ↦{fullShare} f : sProp 𝕄) ⊢ all (regAny c) (parts B) := by
  have h := rows_any (cuts_whole c B) f
  rw [rowsOf_true] at h
  exact h

/-- A whole buffer is its regions. -/
theorem whole_regs (X : Dev nD → ℕ → ℕ → F .f32) (c : Dev nD) (B : Bf) (v : Ver) :
    (B.at c ↦{fullShare} bufs X c v B : sProp 𝕄) = all (regAt c fullShare (bufs X c v)) (parts B) := by
  have h := rows_regs fullShare (bufs X c v) (cuts_whole c B)
  rw [rowsOf_true] at h
  exact h

/-! ## The start and the end -/

variable (X : Dev nD → ℕ → ℕ → F .f32)

/-- The memory a device starts with. -/
def mem0 (c : Dev nD) : sProp 𝕄 :=
  iprop((Bf.arg.at c ↦{fullShare} bufs X c .a .arg) ∗ all (regAny c) fresh)

/-- The credit a device starts with. -/
def credits (c : Dev nD) : sProp 𝕄 :=
  iprop(cred (tallyAt (bc c) () 5)
    ∗ all (fun m : DmaSem sig => match ckOf m with | .R t => cred (tallyAt (kc c (.R t)) () t.ht.amt) | _ => iprop(emp)) (List.finRange 116))

theorem start_intro (c : Dev nD) :
    iprop(mem0 X c ∗ linear c ∗ credits c) ⊢ (all (Atom.holds X c) start : sProp 𝕄) := by
  have hpos : (bigSep Finset.univ fun s : SemLoc sig => (atPos ER (cell (c, s)) 0 ∅ 0 : sProp 𝕄))
      = iprop(Atom.holds X c .posB ∗ all (Atom.holds X c) (cks.map .pos)) := by
    rw [bigSep_sems, cks, all_map, all_map]
    refine congrArg _ (all_congr fun m _ => ?_)
    show _ = atPos ER (kc c (ckOf m)) 0 ∅ 0
    rw [kc_ckOf]
  have htok : (payToks (F := F) c : sProp 𝕄) = iprop(all (Atom.holds X c) ((List.finRange 5).map .tokB)
      ∗ all (Atom.holds X c) (cks.filterMap fun | .R t => some (.tokR t) | k => some (.tok k))) := by
    rw [payToks, all_map, all_filterMap, cks, all_map]
    refine congrArg _ (all_congr fun m _ => ?_)
    unfold payTok
    generalize ckOf m = k
    rcases k with t | t | l <;> rfl
  have hcr : (credits (F := F) c : sProp 𝕄) = iprop(Atom.holds X c .crB
      ∗ all (Atom.holds X c) (cks.filterMap fun | .R t => some (.cr (.R t)) | _ => none)) := by
    rw [credits, all_filterMap, cks, all_map]
    refine congrArg _ (all_congr fun m _ => ?_)
    generalize ckOf m = k
    rcases k with t | t | l <;> rfl
  have hmem : (mem0 X c : sProp 𝕄) = iprop(all (Atom.holds X c) (args.map fun r => .m (.own r .full .a))
      ∗ all (Atom.holds X c) (fresh.map fun r => .m (.own r .full .any))) := by
    rw [mem0, whole_regs, all_map, all_map]
    rfl
  rw [hmem, linear, hpos, htok, hcr, start]
  simp only [all_append, all]
  iintro ⟨⟨H1, H2⟩, ⟨⟨H3, H4⟩, H5, H6⟩, H7, H8⟩
  isplitr [H5]
  · isplitr [H6]
    · isplitr [H3 H7 H8]
      · isplitr [H4]
        · isplitl [H1]
          · iexact H1
          · iexact H2
        · iexact H4
      · isplitl [H3]; · iexact H3
        isplitl [H7]; · iexact H7
        iexact H8
    · iexact H6
  · iexact H5

theorem regs_last (c : Dev nD) (B : Bf) :
    (all (fun r => regAt c fullShare (bufs X c r.last) r) (parts B) : sProp 𝕄) = (B.at c ↦{fullShare} bufs X c B.last B) := by
  rw [whole_regs]
  exact all_congr fun r hr => by rw [last_eq B r hr]

theorem finish_eq (c : Dev nD) :
    (all (Atom.holds X c) finish : sProp 𝕄)
      = iprop((((Bf.arg.at c ↦{fullShare} bufs X c .a .arg) ∗ (Bf.comm.at c ↦{fullShare} bufs X c .b .comm)
          ∗ (Bf.stage.at c ↦{fullShare} bufs X c .a .stage) ∗ (Bf.qb.at c ↦{fullShare} bufs X c .a .qb)
          ∗ (Bf.yb.at c ↦{fullShare} bufs X c .a .yb) ∗ (Bf.xb.at c ↦{fullShare} bufs X c .a .xb)
          ∗ (Bf.out.at c ↦{fullShare} bufs X c .a .out))
        ∗ Pipeline.ownSems0 osem c) ∗ unscopedSems0 c) := by
  have hz : (all (Atom.holds X c) (cks.map .zero) : sProp 𝕄) = Pipeline.ownSems0 osem c := by
    rw [ownSems0_eq, cks, all_map, all_map]
    exact all_congr fun m _ => by
      show semVal (kc c (ckOf m)) 0 = _
      rw [kc_ckOf]
  have hm : ∀ r : Rg, (all (Atom.holds X c) ((pieces r.last r).map .m) : sProp 𝕄) = regAt c fullShare (bufs X c r.last) r := fun r => by
    rw [all_m, all_pieces X c (by cases r <;> intro h <;> cases h)]
  rw [finish, all_append, all_append, hz, all_flatMap, all_congr fun r _ => hm r, fresh_eq, unscopedSems0_eq,
    show args = parts .arg from rfl]
  simp only [all_append, regs_last]
  rw [all, all, sepC _ (iprop(emp)), empL]
  rfl

/-! ## The launch's data -/

variable (m : (ℓ : Loc nD τ sig) → Buf (Elt F) ℓ) (ρ : Dev nD → PrngReg)

/-- What device `c` owes at launch. -/
abbrev O₀ (c : Dev nD) : CellTallies nD τ sig Unit := owed c dues

/-- What device `c` holds before and after the body. -/
def Φ₀ (c : Dev nD) : sProp 𝕄 :=
  iprop((∃ K, Recs (argOf m) K) ∗ levAts L lv ∗ all (Atom.holds (argOf m) c) start)
def Φ₁ (c : Dev nD) : sProp 𝕄 := all (Atom.holds (argOf m) c) finish

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

set_option maxRecDepth 100000 in
theorem body_obligation (c : Dev nD) : Pipeline.BodyObligationLoose (dats m 0 c) (defs₀ (F := F)) 𝒱₀ () Set.univ := fun t => by
  rw [fin_N0 t]
  show iprop(Φ₀ m c ∗ (∃ W, ⌜_⌝ ∗ owes (c : Thread nD τ) (O₀ c) W) ∗ _)
    ⊢ wp frame (wpE (defs₀ (F := F)) 𝒱₀ (c : Thread nD τ) none) Set.univ (bodyAt0 (F := F) t0_0) (fun _ => iprop(Φ₁ m c ∗ (∃ W, ⌜_⌝ ∗ owes (c : Thread nD τ) (owed c []) W) ∗ _))
  rw [body_eq_run, wp_deviceId]
  unfold Φ₀ Φ₁
  iintro ⟨⟨⟨%K, HR⟩, Hlev, Ha⟩, ⟨%W, -, HO⟩, -⟩
  iapply (body_sound (argOf m) K c _) $$ [HR Hlev HO Ha]
  · isplitl [HR]; · iexact HR
    isplitl [Hlev]; · iexact Hlev
    isplitl [HO]
    · unfold Owes
      iexists W
      iexact HO
    · iexact Ha
  iintro ⟨HO, Ha⟩
  isplitl [Ha]; · iexact Ha
  isplitl [HO]
  · unfold Owes
    icases HO with ⟨%W', HO⟩
    iexists W'
    isplitr; · ipureintro; exact fun _ _ => Or.inl trivial
    iexact HO
  · rw [show (Finset.univ : Finset (Fin cfg0.W)) = ∅ from rfl, bigSep_empty]
    iempintro

theorem ownSemFacts : Pipeline.OwnSemFacts cfg0.spec osem := by decide +kernel

theorem share_eq (c : Dev nD) (w : Fin cfg0.W) : (dats m 0 c).share w = fullShare := w.elim0

def u₀ : UU :=
  (initOf (Pipeline.cells cfgs cellOf_inj) (Pipeline.launchToks cfgs cellOf_inj), initOf devCells devToks)

/-- What device `c` brings to the body. -/
def start0 (c : Dev nD) : sProp 𝕄 :=
  iprop((Bf.arg.at c ↦{fullShare} bufs (argOf m) c .a .arg) ∗ all (regAny c) (parts .out) ∗ levAts L lv ∗ credits c ∗ G' (argOf m) c)

theorem start0_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argOf m) c)
      ⊢ |={Set.univ}=> iprop(start0 m c ∗ emp) := by
  rw [Pipeline.unscopedRestP_none, unscopedRest0_eq]
  iintro ⟨⟨Ha, Ho⟩, Hlev, Hcr, -, HG⟩
  ihave Hc := (creds (F := F) c) $$ Hcr
  ihave Ho' := (whole_any c .out (m ((c : Thread nD τ).loc main_v1))) $$ Ho
  imodintro
  unfold start0
  rw [arg_eq]
  isplitl
  · isplitl [Ha]; · iexact Ha
    isplitl [Ho']; · iexact Ho'
    isplitl [Hlev]; · iexact Hlev
    isplitl [Hc]; · unfold credits; iexact Hc
    iexact HG
  · iempintro

theorem phi0_intro (c : Dev nD) :
    iprop(start0 m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start0 G'
  iintro ⟨⟨Ha, Ho, Hlev, Hcr, HK, Hl⟩, -, ⟨%f0, H0⟩, ⟨%f1, H1⟩, ⟨%f2, H2⟩, ⟨%f3, H3⟩, ⟨%f4, H4⟩⟩
  isplitl [HK]; · iexact HK
  isplitl [Hlev]; · iexact Hlev
  iapply (start_intro (argOf m) c)
  isplitr [Hl Hcr]
  · unfold mem0
    rw [fresh_eq]
    simp only [all_append]
    isplitl [Ha]; · iexact Ha
    isplitl [H0]; · iapply (whole_any c .comm f0); iexact H0
    isplitl [H1]; · iapply (whole_any c .stage f1); iexact H1
    isplitl [H2]; · iapply (whole_any c .qb f2); iexact H2
    isplitl [H3]; · iapply (whole_any c .yb f3); iexact H3
    isplitl [H4]; · iapply (whole_any c .xb f4); iexact H4
    iexact Ho
  · isplitl [Hl]; · iexact Hl
    iexact Hcr

/-- What device `c` brings out of the body. -/
def end0 (c : Dev nD) : sProp 𝕄 :=
  iprop(unscopedSems0 c ∗ (Bf.arg.at c ↦{fullShare} bufs (argOf m) c .a .arg) ∗ (Bf.out.at c ↦{fullShare} bufs (argOf m) c .a .out))

theorem phi1_exit (c : Dev nD) :
    (dats m 0 c).Φ (Fin.last cfg0.N) ⊢ iprop(end0 m c ∗ Pipeline.ownSems0 osem c ∗ Pipeline.scopedRest cfg0.spec c) := by
  rw [show (dats m 0 c).Φ (Fin.last cfg0.N) = Φ₁ m c from rfl, scopedRest0_eq]
  unfold Φ₁ end0
  rw [finish_eq]
  iintro ⟨⟨⟨Ha, H0, H1, H2, H3, H4, Ho⟩, Hz⟩, Hu⟩
  isplitl [Hu Ha Ho]
  · isplitl [Hu]; · iexact Hu
    isplitl [Ha]; · iexact Ha
    iexact Ho
  isplitl [Hz]; · iexact Hz
  isplitl [H0]; · iexists _; iexact H0
  isplitl [H1]; · iexists _; iexact H1
  isplitl [H2]; · iexists _; iexact H2
  isplitl [H3]; · iexists _; iexact H3
  iexists _; iexact H4

theorem waits (c : Dev nD) : (levAts L lv : sProp 𝕄) ⊢ Pipeline.cellsWaits cfgs (dats m) () 0 c :=
  Pipeline.cellsWaits_intro cfgs (dats m) () 0 c fun w _ _ => Fin.elim0 w

/-- What is read of a device's memory at the end. -/
def Read (c : Dev nD) (s : MemSt nD τ sig (Elt F)) : Prop :=
  (∀ sm : SemLoc sig, sm.isScoped .tc = false → s.sem ((c.tc : Thread nD τ), sm) = 0)
    ∧ s.mem (Bf.arg.at c) = bufs (argOf m) c .a .arg ∧ s.mem (Bf.out.at c) = bufs (argOf m) c .a .out

theorem read_end (c : Dev nD) (s' : Phys nD τ sig (Elt F)) :
    iprop(end0 m c ∗ emp ∗ SI s') ⊢ |={Set.univ}=> iprop(⌜Read m c s'.mem⌝ ∗ SI s' : sProp 𝕄) := by
  unfold end0
  iintro ⟨⟨Hu, Ha, Ho⟩, -, HSI⟩
  icombine HSI Ha gives %ha
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ ha, Buf.eq_of_forall_mem_univ ho⟩
  · iexact HSI

abbrev EP : Emb (UR sig nD τ) (MT nD τ sig Unit (Elt F) ℕ UU ℕ) := embL

/-! ## The run -/

/-- For any float values, from any memory with all counters at zero: every weakly fair execution of the program
    terminates, and every final state has each device's argument unchanged, its result at the computed contents and
    every counter at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = bufs (argOf m) c .a .out) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (argOf m)) (G' := G' (argOf m)) (u₀ := u₀)
    (hu₀ := by
      unfold u₀
      iintro Hu
      ihave H := (ownU_pair _ _) $$ Hu
      icases H with ⟨HP, HX⟩
      imod (fund_cells (argOf m)) $$ HX with HG
      imodintro
      isplitl [HP] <;> iassumption)
    (hglob := glob (argOf m))
    (hA := fun _ w => w.elim0) (hpf := fun _ k => k.elim0)
    (X := start0 m) (Y := end0 m) (Z := fun _ => iprop(emp))
    (hX := start0_intro m ρ) (hin := phi0_intro m) (hout := phi1_exit m)
    (QY := Read m) (hY := read_end m)
    (hQ := fun _ h hs => ⟨fun c => ⟨((h c).2.2.2.1).trans (arg_eq m c), (h c).2.2.2.2⟩, sem_eq_zero hs fun c => (h c).2.2.1⟩)

end Cert.KernelIdeal.Run
-- ==== Proof.Value.lean ====
/-
  The result of the machine is the reference's: on every device the left-to-right sum along the ring of a group of
  rows is the sum of the four blocks of the whole array.
-/
module

public import proofs.«01_k».proof.Proof.Launch
public import proofs.«01_k».proof.Proof.Gen.ReferenceIdeal.Run
public import Idealize.ShloMosaic.PureOps.Ideal
public import Idealize.ShloMosaic.Lib.IdealHost
public import Idealize.ShloMosaic.Lib.Pointwise.Reduce
public import Idealize.ShloMosaic.Lib.Layout
public import Idealize.ShloMosaic.Lib.Pipeline.Value

@[expose] public section

noncomputable section

namespace Cert.KernelIdeal.Run

open Idealize.ShloMosaic Idealize.ShloMosaic.TcCoe Idealize.SL.Sem
open Cert.KernelIdeal

/-- The whole array, cut into four blocks along its rows. -/
abbrev Whole : Type := (⟨2, ![32768, 1024]⟩ : Shape).Idx → EReal

/-- The number of the whole array `A` at block `z`, at a row and a column of that block. -/
def part (A : Whole) (z R C : ℕ) : EReal :=
  A (ix2 (⟨z % 4 * 8192 + R % 8192, by omega⟩ : Fin 32768) (⟨C % 1024, Nat.mod_lt _ (by decide)⟩ : Fin 1024))

/-- The block of a device is the one its z coordinate names. -/
theorem block_row (c : Dev nD) :
    Layout.meshLin [2, 4, 4] c.val [2] = c.val % 4 := by
  revert c
  decide +kernel

/-- Where an index of a block lies in the whole array. -/
theorem tile_row {n n' l l' : ℕ} {k : Fin 2 → ℕ} (h : Layout.TilesN ⟨2, ![n, l]⟩ ⟨2, ![n', l']⟩ k)
    (j : (b : Fin 2) → Fin (k b)) (i : (⟨2, ![n, l]⟩ : Shape).Idx) :
    (h.idx j i 0).val = (j 0).val * n + (i 0).val := rfl

theorem tile_col {n n' l l' : ℕ} {k : Fin 2 → ℕ} (h : Layout.TilesN ⟨2, ![n, l]⟩ ⟨2, ![n', l']⟩ k)
    (j : (b : Fin 2) → Fin (k b)) (i : (⟨2, ![n, l]⟩ : Shape).Idx) :
    (h.idx j i 1).val = (j 1).val * l + (i 1).val := rfl

/-- The block at `j` of a whole array, read at an index. -/
theorem block_read {n n' l l' : ℕ} {k : Fin 2 → ℕ} (h : Layout.TilesN ⟨2, ![n, l]⟩ ⟨2, ![n', l']⟩ k)
    (j : (b : Fin 2) → Fin (k b)) (A : (⟨2, ![n', l']⟩ : Shape).Idx → EReal) (i : (⟨2, ![n, l]⟩ : Shape).Idx)
    (R : Fin n') (C : Fin l') (hR : (j 0).val * n + (i 0).val = R.val) (hC : (j 1).val * l + (i 1).val = C.val) :
    Layout.blockN ⟨2, ![n, l]⟩ ⟨2, ![n', l']⟩ j A h i = A (ix2 R C) := by
  rw [Layout.blockN_apply]
  congr 1
  funext a
  apply Fin.ext
  match a with
  | ⟨0, _⟩ => exact (tile_row h j i).trans hR
  | ⟨1, _⟩ => exact (tile_col h j i).trans hC

/-- A device that holds its block of the whole array holds that block's numbers. -/
theorem arg_part (A : Whole) (v : S8192x1024.Idx → EReal) (c : Dev nD)
    (h : v = Layout.blockN ⟨2, ![8192, 1024]⟩ ⟨2, ![32768, 1024]⟩ (Layout.meshBlock [2, 4, 4] ![[2], []] c) A)
    (R C : ℕ) : v (at2 R C) = part A (c.val % 4) R C := by
  have h0 : ((at2 R C) 0).val = R % 8192 := rfl
  have h1 : ((at2 R C) 1).val = C % 1024 := rfl
  rw [h]
  refine block_read _ _ A (at2 R C) _ _ ?_ ?_
  · rw [h0, Layout.meshBlock_val]
    exact congrArg (· * 8192 + R % 8192) ((block_row c).trans (Nat.mod_mod c.val 4).symm)
  · rw [h1, Layout.meshBlock_val]
    exact (congrArg (· + C % 1024) (Nat.zero_mul 1024)).trans (Nat.zero_add (C % 1024))

theorem dev_z (x y z : ℕ) : (dev x y z).val % 4 = z % 4 := by
  show (16 * (x % 2) + 4 * (y % 4) + z % 4) % 4 = z % 4
  omega

/-- Four numbers added up cyclically from any one of them have one sum. -/
theorem ring_sum (f : ℕ → EReal) (hf : ∀ z, f z = f (z % 4)) (g : ℕ) :
    f g + f (g + 1) + f (g + 2) + f (g + 3) = f 0 + f 1 + f 2 + f 3 := by
  rw [hf g, hf (g + 1), hf (g + 2), hf (g + 3)]
  have h : g % 4 = 0 ∨ g % 4 = 1 ∨ g % 4 = 2 ∨ g % 4 = 3 := by omega
  rcases h with h | h | h | h
  · rw [h, show (g + 1) % 4 = 1 by omega, show (g + 2) % 4 = 2 by omega, show (g + 3) % 4 = 3 by omega]
  · rw [h, show (g + 1) % 4 = 2 by omega, show (g + 2) % 4 = 3 by omega, show (g + 3) % 4 = 0 by omega]
    ac_rfl
  · rw [h, show (g + 1) % 4 = 3 by omega, show (g + 2) % 4 = 0 by omega, show (g + 3) % 4 = 1 by omega]
    ac_rfl
  · rw [h, show (g + 1) % 4 = 0 by omega, show (g + 2) % 4 = 1 by omega, show (g + 3) % 4 = 2 by omega]
    ac_rfl

/-- What a device's result holds, in the numbers of the whole array. -/
theorem out_parts (A : Whole) (X : Dev nD → ℕ → ℕ → Ideal .f32) (hX : ∀ d R C, X d R C = part A (d.val % 4) R C)
    (c : Dev nD) (r k : ℕ) :
    val X c .out .a r k = part A 0 r k + part A 1 r k + part A 2 r k + part A 3 r k := by
  show ((X (dev (r / 64 / 64) (r / 64 / 16 % 4) (r / 64 / 4 % 4 + 0)) (64 * (r / 64) + r % 64) k
      + X (dev (r / 64 / 64) (r / 64 / 16 % 4) (r / 64 / 4 % 4 + 1)) (64 * (r / 64) + r % 64) k
      + X (dev (r / 64 / 64) (r / 64 / 16 % 4) (r / 64 / 4 % 4 + 2)) (64 * (r / 64) + r % 64) k
      + X (dev (r / 64 / 64) (r / 64 / 16 % 4) (r / 64 / 4 % 4 + 3)) (64 * (r / 64) + r % 64) k : EReal)) = _
  rw [Nat.div_add_mod r 64, hX, hX, hX, hX, dev_z, dev_z, dev_z, dev_z]
  have hf : ∀ z, part A z r k = part A (z % 4) r k := fun z => by unfold part; simp only [Nat.mod_mod]
  rw [← hf, ← hf, ← hf, ← hf]
  exact ring_sum (fun z => part A z r k) hf _

/-- What the reference computes, in the numbers of the whole array. -/
theorem ref_parts (A : Whole) (hc : (⟨2, ![32768, 1024]⟩ : Shape).ShapeCasts ⟨3, ![4, 8192, 1024]⟩)
    (hr : (⟨3, ![4, 8192, 1024]⟩ : Shape).ReducesTo [0] ⟨2, ![8192, 1024]⟩) (z : EReal) (hz : z = 0)
    (i : (⟨2, ![8192, 1024]⟩ : Shape).Idx) :
    Ideal.hostReduceAdd hr (shapeCast ⟨3, ![4, 8192, 1024]⟩ A hc) z i
      = part A 0 (i 0).val (i 1).val + part A 1 (i 0).val (i 1).val + part A 2 (i 0).val (i 1).val
        + part A 3 (i 0).val (i 1).val := by
  have h0 : (i 0).val < 8192 := (i 0).isLt
  have h1 : (i 1).val < 1024 := (i 1).isLt
  have hp : ∀ k : Fin 4, shapeCast ⟨3, ![4, 8192, 1024]⟩ A hc (ix3 k ⟨(i 0).val, h0⟩ ⟨(i 1).val, h1⟩)
      = part A k.val (i 0).val (i 1).val := fun k => by
    apply shapeCast_apply
    rw [Shape.rowMajor_val_three, Shape.rowMajor_val_two]
    show (k.val % 4 * 8192 + (i 0).val % 8192) * 1024 + (i 1).val % 1024
      = (k.val * 8192 + (i 0).val) * 1024 + (i 1).val
    rw [Nat.mod_eq_of_lt k.isLt, Nat.mod_eq_of_lt h0, Nat.mod_eq_of_lt h1]
  rw [Ideal.hostReduceAdd_r3_a0, hz, zero_add, Fin.sum_univ_four]
  exact congrArg₂ _ (congrArg₂ _ (congrArg₂ _ (hp 0) (hp 1)) (hp 2)) (hp 3)

/-- Every device's result is the reference's. -/
theorem out_eq (m : (ℓ : Loc nD τ sig) → Buf (Elt Ideal) ℓ) (A : Whole)
    (h : ∀ c : Dev nD, m ((c.tc : Thread nD τ).loc main_arg0)
      = Layout.blockN ⟨2, ![8192, 1024]⟩ ⟨2, ![32768, 1024]⟩ (Layout.meshBlock [2, 4, 4] ![[2], []] c) A)
    (hc : (⟨2, ![32768, 1024]⟩ : Shape).ShapeCasts ⟨3, ![4, 8192, 1024]⟩)
    (hr : (⟨3, ![4, 8192, 1024]⟩ : Shape).ReducesTo [0] ⟨2, ![8192, 1024]⟩) (z : EReal) (hz : z = 0) (c : Dev nD) :
    (show S8192x1024.Idx → EReal from bufs (argOf m) c .a .out)
      = Ideal.hostReduceAdd hr (shapeCast ⟨3, ![4, 8192, 1024]⟩ A hc) z := by
  funext i
  rw [ref_parts A hc hr z hz i]
  exact out_parts A (argOf m) (fun d R C => arg_part A _ d (h d) R C) c _ _

end Cert.KernelIdeal.Run

end
-- ==== Proof.lean ====
/-
  The five claims.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent

@[expose] public section

noncomputable section

namespace Cert.Proof

open Idealize.ShloMosaic Idealize.ShloMosaic.TcCoe Idealize.SL.Sem Cert.Kernel

/-- The kernel on machine numbers ends with its argument unchanged and all counters at zero. -/
theorem frame_kernel : Cert.quiescent_Kernel := fun m ρ _ =>
  (θ_run Cert.KernelIdeal.defs _ _).mono (fun _ h => ⟨fun c => (h.1 c).1, h.2⟩)
    (Cert.KernelIdeal.Run.run_main (F := Bits) m ρ)

/-- The kernel on exact numbers ends with its argument unchanged and all counters at zero. -/
theorem frame_ideal : Cert.quiescent_KernelIdeal := fun m ρ _ =>
  (θ_run Cert.KernelIdeal.defs _ _).mono (fun _ h => ⟨fun c => (h.1 c).1, h.2⟩)
    (Cert.KernelIdeal.Run.run_main (F := Ideal) m ρ)

/-- The reference ends with its argument unchanged; it has no counters. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel and the reference end with the same numbers. -/
theorem same_result : Cert.algebraic_KernelIdeal_ReferenceIdeal := fun m ρ m' ρ' _ h =>
  ⟨_, (θ_run Cert.KernelIdeal.defs _ _).mono
      (fun _ hr c => ⟨(hr.1 c).2.trans (Cert.KernelIdeal.Run.out_eq m _ h _ _ _ Ideal.ofBits_zero_f32 c), (hr.1 c).1⟩)
      (Cert.KernelIdeal.Run.run_main (F := Ideal) m ρ),
    (θ_run Cert.ReferenceIdeal.defs _ _).mono (fun _ hr => hr 0)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, same_result⟩

end Cert.Proof

end
